-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "two_over_count" .f32 0x33E38E39#32 ((1 / 9437184 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v130)) (v1 : (c : Dev Cert.KernelIdeal.nD) → Buf (Elt Ideal) ((c.tc : Thread Cert.KernelIdeal.nD Cert.KernelIdeal.τ).loc Cert.KernelIdeal.main_v105)) (v2 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_v105) = v1 c
          ∧ r.2.mem ((c.tc : Thread Cert.KernelIdeal.nD Cert.KernelIdeal.τ).loc Cert.KernelIdeal.main_v104) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v237) = v0 c
          ∧ r.2.mem ((c.tc : Thread Cert.ReferenceIdeal.nD Cert.ReferenceIdeal.τ).loc Cert.ReferenceIdeal.main_v246) = v1 c
          ∧ r.2.mem ((c.tc : Thread Cert.ReferenceIdeal.nD Cert.ReferenceIdeal.τ).loc Cert.ReferenceIdeal.main_v247) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x3x384x384 : Shape := ⟨4, ![8, 3, 384, 384]⟩
abbrev S192x3x4x4 : Shape := ⟨4, ![192, 3, 4, 4]⟩
abbrev S192 : Shape := ⟨1, ![192]⟩
abbrev S64x192x1x1 : Shape := ⟨4, ![64, 192, 1, 1]⟩
abbrev S64 : Shape := ⟨1, ![64]⟩
abbrev S1024x64 : Shape := ⟨2, ![1024, 64]⟩
abbrev S192x64x4x4 : Shape := ⟨4, ![192, 64, 4, 4]⟩
abbrev S3x192x1x1 : Shape := ⟨4, ![3, 192, 1, 1]⟩
abbrev S3 : Shape := ⟨1, ![3]⟩
abbrev S_ : Shape := ⟨0, ![]⟩

class Facts : Prop where
  bcast_S_S8x3x384x384 : S_.BroadcastsInDim S8x3x384x384 (![] : Fin 0 → Fin S8x3x384x384.rank)
  reducesTo_S8x3x384x384_S_d0_1_2_3 : S8x3x384x384.ReducesTo [0, 1, 2, 3] S_
  h_S_ : 0 < S_.numel
  bcast_S_S192x3x4x4 : S_.BroadcastsInDim S192x3x4x4 (![] : Fin 0 → Fin S192x3x4x4.rank)
  reducesTo_S192x3x4x4_S_d0_1_2_3 : S192x3x4x4.ReducesTo [0, 1, 2, 3] S_
  bcast_S_S192 : S_.BroadcastsInDim S192 (![] : Fin 0 → Fin S192.rank)
  reducesTo_S192_S_d0 : S192.ReducesTo [0] S_
  bcast_S_S64x192x1x1 : S_.BroadcastsInDim S64x192x1x1 (![] : Fin 0 → Fin S64x192x1x1.rank)
  reducesTo_S64x192x1x1_S_d0_1_2_3 : S64x192x1x1.ReducesTo [0, 1, 2, 3] S_
  bcast_S_S64 : S_.BroadcastsInDim S64 (![] : Fin 0 → Fin S64.rank)
  reducesTo_S64_S_d0 : S64.ReducesTo [0] S_
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_arg4 : FVec F S64 .f32) (main_arg5 : FVec F S1024x64 .f32) (main_v14 : IVec S_ 1) (main_v15 : FVec F S64x192x1x1 .f32) (main_cst_5 : FVec F S_ .f32) : IVec S_ 1 :=
  let main_v16 : FVec F S64x192x1x1 .f32 := broadcastInDim S64x192x1x1 ![] bcast_S_S64x192x1x1 main_cst_5
  let main_v17 : IVec S64x192x1x1 1 := cmpf .olt main_v15 main_v16
  let main_c_6 : IVec S_ 1 := constantI S_ 1 1#1
  let main_v18 : IVec S_ 1 := (fun x v => Host.reduce IntOp.andi x v reducesTo_S64x192x1x1_S_d0_1_2_3 h_S_) main_v17 main_c_6
  let main_v19 : IVec S_ 1 := andi main_v14 main_v18
  let main_v20 : FVec F S64 .f32 := Host.absf main_arg4
  let main_cst_7 : FVec F S_ .f32 := constant S_ .f32 0x7F800000#32
  let main_v21 : FVec F S64 .f32 := broadcastInDim S64 ![] bcast_S_S64 main_cst_7
  let main_v22 : IVec S64 1 := cmpf .olt main_v20 main_v21
  let main_c_8 : IVec S_ 1 := constantI S_ 1 1#1
  let main_v23 : IVec S_ 1 := (fun x v => Host.reduce IntOp.andi x v reducesTo_S64_S_d0 h_S_) main_v22 main_c_8
  let main_v24 : IVec S_ 1 := andi main_v19 main_v23
  let main_v25 : FVec F S1024x64 .f32 := Host.absf main_arg5
  let main_cst_9 : FVec F S_ .f32 := constant S_ .f32 0x7F800000#32
  let main_v26 : FVec F S1024x64 .f32 := broadcastInDim S1024x64 ![] bcast_S_S1024x64 main_cst_9
  let main_v27 : IVec S1024x64 1 := cmpf .olt main_v25 main_v26
  let main_c_10 : IVec S_ 1 := constantI S_ 1 1#1
  let main_v28 : IVec S_ 1 := (fun x v => Host.reduce IntOp.andi x v reducesTo_S1024x64_S_d0_1 h_S_) main_v27 main_c_10
  let main_v29 : IVec S_ 1 := andi main_v24 main_v28
  main_v29

def fn {F : FTy → Type} [FloatOps F] (main_arg0 : FVec F S8x3x384x384 .f32) (main_arg1 : FVec F S192x3x4x4 .f32) (main_arg2 : FVec F S192 .f32) (main_arg3 : FVec F S64x192x1x1 .f32) (main_arg4 : FVec F S64 .f32) (main_arg5 : FVec F S1024x64 .f32) (main_arg6 : FVec F S192x64x4x4 .f32) (main_arg7 : FVec F S192 .f32) (main_arg8 : FVec F S3x192x1x1 .f32) (main_arg9 : FVec F S3 .f32) : IVec S_ 1 :=
  let main_v0 : FVec F S8x3x384x384 .f32 := Host.absf main_arg0
  let main_cst : FVec F S_ .f32 := constant S_ .f32 0x7F800000#32
  let main_v1 : FVec F S8x3x384x384 .f32 := broadcastInDim S8x3x384x384 ![] bcast_S_S8x3x384x384 main_cst
  let main_v2 : IVec S8x3x384x384 1 := cmpf .olt main_v0 main_v1
  let main_c : IVec S_ 1 := constantI S_ 1 1#1
  let main_v3 : IVec S_ 1 := (fun x v => Host.reduce IntOp.andi x v reducesTo_S8x3x384x384_S_d0_1_2_3 h_S_) main_v2 main_c
  let main_c_0 : IVec S_ 1 := constantI S_ 1 1#1
  let main_v4 : IVec S_ 1 := andi main_c_0 main_v3
  let main_v5 : FVec F S192x3x4x4 .f32 := Host.absf main_arg1
  let main_cst_1 : FVec F S_ .f32 := constant S_ .f32 0x7F800000#32
  let main_v6 : FVec F S192x3x4x4 .f32 := broadcastInDim S192x3x4x4 ![] bcast_S_S192x3x4x4 main_cst_1
  let main_v7 : IVec S192x3x4x4 1 := cmpf .olt main_v5 main_v6
  let main_c_2 : IVec S_ 1 := constantI S_ 1 1#1
  let main_v8 : IVec S_ 1 := (fun x v => Host.reduce IntOp.andi x v reducesTo_S192x3x4x4_S_d0_1_2_3 h_S_) main_v7 main_c_2
  let main_v9 : IVec S_ 1 := andi main_v4 main_v8
  let main_v10 : FVec F S192 .f32 := Host.absf main_arg2
  let main_cst_3 : FVec F S_ .f32 := constant S_ .f32 0x7F800000#32
  let main_v11 : FVec F S192 .f32 := broadcastInDim S192 ![] bcast_S_S192 main_cst_3
  let main_v12 : IVec S192 1 := cmpf .olt main_v10 main_v11
  let main_c_4 : IVec S_ 1 := constantI S_ 1 1#1
  let main_v13 : IVec S_ 1 := (fun x v => Host.reduce IntOp.andi x v reducesTo_S192_S_d0 h_S_) main_v12 main_c_4
  let main_v14 : IVec S_ 1 := andi main_v9 main_v13
  let main_v15 : FVec F S64x192x1x1 .f32 := Host.absf main_arg3
  let main_cst_5 : FVec F S_ .f32 := constant S_ .f32 0x7F800000#32
  fn_part1 (F := F) main_arg4 main_arg5 main_v14 main_v15 main_cst_5
-- ==== Kernel.lean ====
abbrev S8x3x384x384 : Shape := ⟨4, ![8, 3, 384, 384]⟩
abbrev S192x3x4x4 : Shape := ⟨4, ![192, 3, 4, 4]⟩
abbrev S192 : Shape := ⟨1, ![192]⟩
abbrev S64x192x1x1 : Shape := ⟨4, ![64, 192, 1, 1]⟩
abbrev S64 : Shape := ⟨1, ![64]⟩
abbrev S1024x64 : Shape := ⟨2, ![1024, 64]⟩
abbrev S192x64x4x4 : Shape := ⟨4, ![192, 64, 4, 4]⟩
abbrev S3x192x1x1 : Shape := ⟨4, ![3, 192, 1, 1]⟩
abbrev S3 : Shape := ⟨1, ![3]⟩
abbrev S_ : Shape := ⟨0, ![]⟩
abbrev S8x3x386x386 : Shape := ⟨4, ![8, 3, 386, 386]⟩
abbrev S512 : Shape := ⟨1, ![512]⟩
abbrev S386 : Shape := ⟨1, ![386]⟩
abbrev S386x1 : Shape := ⟨2, ![386, 1]⟩
abbrev S1x512 : Shape := ⟨2, ![1, 512]⟩
abbrev S386x512 : Shape := ⟨2, ![386, 512]⟩
abbrev S400 : Shape := ⟨1, ![400]⟩
abbrev S400x1 : Shape := ⟨2, ![400, 1]⟩
abbrev S1x386 : Shape := ⟨2, ![1, 386]⟩
abbrev S400x386 : Shape := ⟨2, ![400, 386]⟩
abbrev S8x3x400x512 : Shape := ⟨4, ![8, 3, 400, 512]⟩
abbrev S1x1x386x386 : Shape := ⟨4, ![1, 1, 386, 386]⟩
abbrev S1x1x400x512 : Shape := ⟨4, ![1, 1, 400, 512]⟩
abbrev S386x386 : Shape := ⟨2, ![386, 386]⟩
abbrev S400x512 : Shape := ⟨2, ![400, 512]⟩
abbrev S8x3x192x192 : Shape := ⟨4, ![8, 3, 192, 192]⟩
abbrev S1x8x3x192x192 : Shape := ⟨5, ![1, 8, 3, 192, 192]⟩
abbrev S16x8x3x192x192 : Shape := ⟨5, ![16, 8, 3, 192, 192]⟩
abbrev S16x3x8x192x192 : Shape := ⟨5, ![16, 3, 8, 192, 192]⟩
abbrev S48x294912 : Shape := ⟨2, ![48, 294912]⟩
abbrev S192x4x4x3 : Shape := ⟨4, ![192, 4, 4, 3]⟩
abbrev S192x48 : Shape := ⟨2, ![192, 48]⟩
abbrev S64x192 : Shape := ⟨2, ![64, 192]⟩
abbrev S1024 : Shape := ⟨1, ![1024]⟩
abbrev S1024x1 : Shape := ⟨2, ![1024, 1]⟩
abbrev S64x1024 : Shape := ⟨2, ![64, 1024]⟩
abbrev S192x1 : Shape := ⟨2, ![192, 1]⟩
abbrev S64x1 : Shape := ⟨2, ![64, 1]⟩
abbrev S192x1x1536 : Shape := ⟨3, ![192, 1, 1536]⟩
abbrev S294912x64 : Shape := ⟨2, ![294912, 64]⟩
abbrev S1x1 : Shape := ⟨2, ![1, 1]⟩
abbrev S48x1536 : Shape := ⟨2, ![48, 1536]⟩
abbrev S1x1x1536 : Shape := ⟨3, ![1, 1, 1536]⟩
abbrev S1536x64 : Shape := ⟨2, ![1536, 64]⟩
abbrev S192x1536 : Shape := ⟨2, ![192, 1536]⟩
abbrev S64x1536 : Shape := ⟨2, ![64, 1536]⟩
abbrev S1024x1536 : Shape := ⟨2, ![1024, 1536]⟩
abbrev S1536 : Shape := ⟨1, ![1536]⟩
abbrev S1x1536 : Shape := ⟨2, ![1, 1536]⟩
abbrev S1 : Shape := ⟨1, ![1]⟩
abbrev S1x1x1 : Shape := ⟨3, ![1, 1, 1]⟩
abbrev S8x192x192 : Shape := ⟨3, ![8, 192, 192]⟩
abbrev S8x192x192x64 : Shape := ⟨4, ![8, 192, 192, 64]⟩
abbrev S8x194x194x64 : Shape := ⟨4, ![8, 194, 194, 64]⟩
abbrev S4x4x64x192 : Shape := ⟨4, ![4, 4, 64, 192]⟩
abbrev S2x2x64x192 : Shape := ⟨4, ![2, 2, 64, 192]⟩
abbrev S256x192 : Shape := ⟨2, ![256, 192]⟩
abbrev S1x256x192 : Shape := ⟨3, ![1, 256, 192]⟩
abbrev S4x256x192 : Shape := ⟨3, ![4, 256, 192]⟩
abbrev S3x192 : Shape := ⟨2, ![3, 192]⟩
abbrev S1x192 : Shape := ⟨2, ![1, 192]⟩
abbrev S3x1 : Shape := ⟨2, ![3, 1]⟩
abbrev S4x8x12x3x3072 : Shape := ⟨5, ![4, 8, 12, 3, 3072]⟩
abbrev S1x194x194x64 : Shape := ⟨4, ![1, 194, 194, 64]⟩
abbrev S4x1x1x3x3072 : Shape := ⟨5, ![4, 1, 1, 3, 3072]⟩
abbrev S1x16x192x64 : Shape := ⟨4, ![1, 16, 192, 64]⟩
abbrev S16x192x64 : Shape := ⟨3, ![16, 192, 64]⟩
abbrev S16x192x256 : Shape := ⟨3, ![16, 192, 256]⟩
abbrev S3072x256 : Shape := ⟨2, ![3072, 256]⟩
abbrev S3072x192 : Shape := ⟨2, ![3072, 192]⟩
abbrev S3x3072 : Shape := ⟨2, ![3, 3072]⟩
abbrev S1x1x1x3x3072 : Shape := ⟨5, ![1, 1, 1, 3, 3072]⟩
abbrev S2x2x8x12x3x16x192 : Shape := ⟨7, ![2, 2, 8, 12, 3, 16, 192]⟩
abbrev S8x3x12x16x2x192x2 : Shape := ⟨7, ![8, 3, 12, 16, 2, 192, 2]⟩

abbrev nBuf : Space → Nat
  | .hbm => 169
  | .vmem => 28
  | .smem => 0
  | _ => 0

abbrev hbmTy0_0 (i : Nat) : BufTy := match i % 128 with
  | 0 => ⟨S8x3x384x384, .f32⟩
  | 1 => ⟨S192x3x4x4, .f32⟩
  | 2 => ⟨S192, .f32⟩
  | 3 => ⟨S64x192x1x1, .f32⟩
  | 4 => ⟨S64, .f32⟩
  | 5 => ⟨S1024x64, .f32⟩
  | 6 => ⟨S192x64x4x4, .f32⟩
  | 7 => ⟨S192, .f32⟩
  | 8 => ⟨S3x192x1x1, .f32⟩
  | 9 => ⟨S3, .f32⟩
  | 10 => ⟨S8x3x384x384, .bf16⟩
  | 11 => ⟨S_, .i32⟩
  | 12 => ⟨S_, .bf16⟩
  | 13 => ⟨S8x3x386x386, .bf16⟩
  | 14 => ⟨S512, .i32⟩
  | 15 => ⟨S_, .i32⟩
  | 16 => ⟨S512, .i32⟩
  | 17 => ⟨S512, .i1⟩
  | 18 => ⟨S_, .i32⟩
  | 19 => ⟨S512, .i32⟩
  | 20 => ⟨S512, .i32⟩
  | 21 => ⟨S_, .i32⟩
  | 22 => ⟨S512, .i32⟩
  | 23 => ⟨S512, .i1⟩
  | 24 => ⟨S_, .i32⟩
  | 25 => ⟨S512, .i32⟩
  | 26 => ⟨S512, .i1⟩
  | 27 => ⟨S512, .i1⟩
  | 28 => ⟨S_, .i32⟩
  | 29 => ⟨S512, .i32⟩
  | 30 => ⟨S512, .i32⟩
  | 31 => ⟨S_, .i32⟩
  | 32 => ⟨S512, .i32⟩
  | 33 => ⟨S512, .i32⟩
  | 34 => ⟨S_, .i32⟩
  | 35 => ⟨S512, .i32⟩
  | 36 => ⟨S512, .i32⟩
  | 37 => ⟨S_, .i32⟩
  | 38 => ⟨S_, .i32⟩
  | 39 => ⟨S512, .i32⟩
  | 40 => ⟨S512, .i32⟩
  | 41 => ⟨S512, .i32⟩
  | 42 => ⟨S386, .i32⟩
  | 43 => ⟨S386x1, .i32⟩
  | 44 => ⟨S1x512, .i32⟩
  | 45 => ⟨S386x512, .i32⟩
  | 46 => ⟨S386x512, .i32⟩
  | 47 => ⟨S386x512, .i1⟩
  | 48 => ⟨S386x512, .bf16⟩
  | 49 => ⟨S400, .i32⟩
  | 50 => ⟨S_, .i32⟩
  | 51 => ⟨S400, .i32⟩
  | 52 => ⟨S400, .i1⟩
  | 53 => ⟨S_, .i32⟩
  | 54 => ⟨S400, .i32⟩
  | 55 => ⟨S400, .i32⟩
  | 56 => ⟨S_, .i32⟩
  | 57 => ⟨S400, .i32⟩
  | 58 => ⟨S400, .i1⟩
  | 59 => ⟨S_, .i32⟩
  | 60 => ⟨S400, .i32⟩
  | 61 => ⟨S400, .i1⟩
  | 62 => ⟨S400, .i1⟩
  | 63 => ⟨S_, .i32⟩
  | 64 => ⟨S400, .i32⟩
  | 65 => ⟨S400, .i32⟩
  | 66 => ⟨S_, .i32⟩
  | 67 => ⟨S400, .i32⟩
  | 68 => ⟨S400, .i32⟩
  | 69 => ⟨S_, .i32⟩
  | 70 => ⟨S400, .i32⟩
  | 71 => ⟨S400, .i32⟩
  | 72 => ⟨S_, .i32⟩
  | 73 => ⟨S_, .i32⟩
  | 74 => ⟨S400, .i32⟩
  | 75 => ⟨S400, .i32⟩
  | 76 => ⟨S400, .i32⟩
  | 77 => ⟨S400x1, .i32⟩
  | 78 => ⟨S386, .i32⟩
  | 79 => ⟨S1x386, .i32⟩
  | 80 => ⟨S400x386, .i32⟩
  | 81 => ⟨S400x386, .i32⟩
  | 82 => ⟨S400x386, .i1⟩
  | 83 => ⟨S400x386, .bf16⟩
  | 84 => ⟨S8x3x400x512, .bf16⟩
  | 85 => ⟨S8x3x192x192, .bf16⟩
  | 86 => ⟨S8x3x192x192, .bf16⟩
  | 87 => ⟨S8x3x192x192, .bf16⟩
  | 88 => ⟨S8x3x192x192, .bf16⟩
  | 89 => ⟨S8x3x192x192, .bf16⟩
  | 90 => ⟨S8x3x192x192, .bf16⟩
  | 91 => ⟨S8x3x192x192, .bf16⟩
  | 92 => ⟨S8x3x192x192, .bf16⟩
  | 93 => ⟨S8x3x192x192, .bf16⟩
  | 94 => ⟨S8x3x192x192, .bf16⟩
  | 95 => ⟨S8x3x192x192, .bf16⟩
  | 96 => ⟨S8x3x192x192, .bf16⟩
  | 97 => ⟨S8x3x192x192, .bf16⟩
  | 98 => ⟨S8x3x192x192, .bf16⟩
  | 99 => ⟨S8x3x192x192, .bf16⟩
  | 100 => ⟨S8x3x192x192, .bf16⟩
  | 101 => ⟨S1x8x3x192x192, .bf16⟩
  | 102 => ⟨S1x8x3x192x192, .bf16⟩
  | 103 => ⟨S1x8x3x192x192, .bf16⟩
  | 104 => ⟨S1x8x3x192x192, .bf16⟩
  | 105 => ⟨S1x8x3x192x192, .bf16⟩
  | 106 => ⟨S1x8x3x192x192, .bf16⟩
  | 107 => ⟨S1x8x3x192x192, .bf16⟩
  | 108 => ⟨S1x8x3x192x192, .bf16⟩
  | 109 => ⟨S1x8x3x192x192, .bf16⟩
  | 110 => ⟨S1x8x3x192x192, .bf16⟩
  | 111 => ⟨S1x8x3x192x192, .bf16⟩
  | 112 => ⟨S1x8x3x192x192, .bf16⟩
  | 113 => ⟨S1x8x3x192x192, .bf16⟩
  | 114 => ⟨S1x8x3x192x192, .bf16⟩
  | 115 => ⟨S1x8x3x192x192, .bf16⟩
  | 116 => ⟨S1x8x3x192x192, .bf16⟩
  | 117 => ⟨S16x8x3x192x192, .bf16⟩
  | 118 => ⟨S16x3x8x192x192, .bf16⟩
  | 119 => ⟨S48x294912, .bf16⟩
  | 120 => ⟨S192x4x4x3, .f32⟩
  | 121 => ⟨S192x48, .f32⟩
  | 122 => ⟨S192x48, .bf16⟩
  | 123 => ⟨S64x192, .f32⟩
  | 124 => ⟨S64x192, .bf16⟩
  | 125 => ⟨S_, .f32⟩
  | 126 => ⟨S1024x64, .f32⟩
  | 127 => ⟨S1024x64, .f32⟩
  | _ => ⟨S8x3x384x384, .f32⟩

abbrev hbmTy0_1 (i : Nat) : BufTy := match i % 128 with
  | 0 => ⟨S1024x64, .bf16⟩
  | 1 => ⟨S1024x64, .f32⟩
  | 2 => ⟨S_, .f32⟩
  | 3 => ⟨S1024, .f32⟩
  | 4 => ⟨S1024x1, .f32⟩
  | 5 => ⟨S64x1024, .f32⟩
  | 6 => ⟨S64x1024, .bf16⟩
  | 7 => ⟨S192x1, .f32⟩
  | 8 => ⟨S64x1, .f32⟩
  | 9 => ⟨S192x1x1536, .i32⟩
  | 10 => ⟨S294912x64, .bf16⟩
  | 11 => ⟨S1x1, .f32⟩
  | 12 => ⟨S8x192x192, .i32⟩
  | 13 => ⟨S_, .f32⟩
  | 14 => ⟨S8x192x192x64, .bf16⟩
  | 15 => ⟨S_, .i32⟩
  | 16 => ⟨S_, .bf16⟩
  | 17 => ⟨S8x194x194x64, .bf16⟩
  | 18 => ⟨S4x4x64x192, .f32⟩
  | 19 => ⟨S2x2x64x192, .f32⟩
  | 20 => ⟨S256x192, .f32⟩
  | 21 => ⟨S2x2x64x192, .f32⟩
  | 22 => ⟨S256x192, .f32⟩
  | 23 => ⟨S2x2x64x192, .f32⟩
  | 24 => ⟨S256x192, .f32⟩
  | 25 => ⟨S2x2x64x192, .f32⟩
  | 26 => ⟨S256x192, .f32⟩
  | 27 => ⟨S1x256x192, .f32⟩
  | 28 => ⟨S1x256x192, .f32⟩
  | 29 => ⟨S1x256x192, .f32⟩
  | 30 => ⟨S1x256x192, .f32⟩
  | 31 => ⟨S4x256x192, .f32⟩
  | 32 => ⟨S4x256x192, .bf16⟩
  | 33 => ⟨S3x192, .f32⟩
  | 34 => ⟨S3x192, .bf16⟩
  | 35 => ⟨S1x192, .f32⟩
  | 36 => ⟨S3x1, .f32⟩
  | 37 => ⟨S4x8x12x3x3072, .f32⟩
  | 38 => ⟨S2x2x8x12x3x16x192, .f32⟩
  | 39 => ⟨S8x3x12x16x2x192x2, .f32⟩
  | 40 => ⟨S8x3x384x384, .f32⟩
  | _ => ⟨S8x3x384x384, .f32⟩

abbrev hbmTy (i : Nat) : BufTy := match i / 128 with
  | 0 => hbmTy0_0 i
  | 1 => hbmTy0_1 i
  | _ => ⟨S8x3x384x384, .f32⟩

abbrev bufTy : (tb : Table) → Fin (tcTables nBuf tb) → BufTy
  | .hbm, ⟨i, _⟩ => hbmTy i
  | .local _ .vmem, ⟨0, _⟩ => ⟨S1x1x386x386, .bf16⟩
  | .local _ .vmem, ⟨1, _⟩ => ⟨S1x1x386x386, .bf16⟩
  | .local _ .vmem, ⟨2, _⟩ => ⟨S386x512, .bf16⟩
  | .local _ .vmem, ⟨3, _⟩ => ⟨S400x386, .bf16⟩
  | .local _ .vmem, ⟨4, _⟩ => ⟨S1x1x400x512, .bf16⟩
  | .local _ .vmem, ⟨5, _⟩ => ⟨S1x1x400x512, .bf16⟩
  | .local _ .vmem, ⟨6, _⟩ => ⟨S48x1536, .bf16⟩
  | .local _ .vmem, ⟨7, _⟩ => ⟨S48x1536, .bf16⟩
  | .local _ .vmem, ⟨8, _⟩ => ⟨S192x48, .bf16⟩
  | .local _ .vmem, ⟨9, _⟩ => ⟨S192x1, .f32⟩
  | .local _ .vmem, ⟨10, _⟩ => ⟨S64x192, .bf16⟩
  | .local _ .vmem, ⟨11, _⟩ => ⟨S64x1, .f32⟩
  | .local _ .vmem, ⟨12, _⟩ => ⟨S1024x64, .bf16⟩
  | .local _ .vmem, ⟨13, _⟩ => ⟨S1024x1, .f32⟩
  | .local _ .vmem, ⟨14, _⟩ => ⟨S64x1024, .bf16⟩
  | .local _ .vmem, ⟨15, _⟩ => ⟨S1x1x1536, .i32⟩
  | .local _ .vmem, ⟨16, _⟩ => ⟨S1x1x1536, .i32⟩
  | .local _ .vmem, ⟨17, _⟩ => ⟨S1536x64, .bf16⟩
  | .local _ .vmem, ⟨18, _⟩ => ⟨S1536x64, .bf16⟩
  | .local _ .vmem, ⟨19, _⟩ => ⟨S1x1, .f32⟩
  | .local _ .vmem, ⟨20, _⟩ => ⟨S1x194x194x64, .bf16⟩
  | .local _ .vmem, ⟨21, _⟩ => ⟨S1x194x194x64, .bf16⟩
  | .local _ .vmem, ⟨22, _⟩ => ⟨S4x256x192, .bf16⟩
  | .local _ .vmem, ⟨23, _⟩ => ⟨S1x192, .f32⟩
  | .local _ .vmem, ⟨24, _⟩ => ⟨S3x192, .bf16⟩
  | .local _ .vmem, ⟨25, _⟩ => ⟨S3x1, .f32⟩
  | .local _ .vmem, ⟨26, _⟩ => ⟨S4x1x1x3x3072, .f32⟩
  | .local _ .vmem, ⟨27, _⟩ => ⟨S4x1x1x3x3072, .f32⟩
  | _, _ => ⟨S8x3x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_c_2 : Ref sig .tc := ⟨.hbm, 21, rfl⟩
abbrev main_v7 : Ref sig .tc := ⟨.hbm, 22, rfl⟩
abbrev main_v8 : Ref sig .tc := ⟨.hbm, 23, rfl⟩
abbrev main_c_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_v13 : Ref sig .tc := ⟨.hbm, 30, rfl⟩
abbrev main_c_5 : Ref sig .tc := ⟨.hbm, 31, rfl⟩
abbrev main_v14 : Ref sig .tc := ⟨.hbm, 32, rfl⟩
abbrev main_v15 : Ref sig .tc := ⟨.hbm, 33, rfl⟩
abbrev main_c_6 : Ref sig .tc := ⟨.hbm, 34, rfl⟩
abbrev main_v16 : Ref sig .tc := ⟨.hbm, 35, rfl⟩
abbrev main_v17 : Ref sig .tc := ⟨.hbm, 36, rfl⟩
abbrev main_c_7 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_8 : Ref sig .tc := ⟨.hbm, 50, rfl⟩
abbrev main_v28 : Ref sig .tc := ⟨.hbm, 51, rfl⟩
abbrev main_v29 : Ref sig .tc := ⟨.hbm, 52, rfl⟩
abbrev main_c_9 : Ref sig .tc := ⟨.hbm, 53, rfl⟩
abbrev main_v30 : Ref sig .tc := ⟨.hbm, 54, rfl⟩
abbrev main_v31 : Ref sig .tc := ⟨.hbm, 55, rfl⟩
abbrev main_c_10 : Ref sig .tc := ⟨.hbm, 56, rfl⟩
abbrev main_v32 : Ref sig .tc := ⟨.hbm, 57, rfl⟩
abbrev main_v33 : Ref sig .tc := ⟨.hbm, 58, rfl⟩
abbrev main_c_11 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_12 : Ref sig .tc := ⟨.hbm, 63, rfl⟩
abbrev main_v37 : Ref sig .tc := ⟨.hbm, 64, rfl⟩
abbrev main_v38 : Ref sig .tc := ⟨.hbm, 65, rfl⟩
abbrev main_c_13 : Ref sig .tc := ⟨.hbm, 66, rfl⟩
abbrev main_v39 : Ref sig .tc := ⟨.hbm, 67, rfl⟩
abbrev main_v40 : Ref sig .tc := ⟨.hbm, 68, rfl⟩
abbrev main_c_14 : Ref sig .tc := ⟨.hbm, 69, rfl⟩
abbrev main_v41 : Ref sig .tc := ⟨.hbm, 70, rfl⟩
abbrev main_v42 : Ref sig .tc := ⟨.hbm, 71, rfl⟩
abbrev main_c_15 : Ref sig .tc := ⟨.hbm, 72, rfl⟩
abbrev main_call3_v0 : Ref sig .tc := ⟨.hbm, 73, rfl⟩
abbrev main_call3_v1 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_16 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103_0 : Ref sig .tc := ⟨.hbm, 137, rfl⟩
abbrev main_v103_1 : Ref sig .tc := ⟨.hbm, 138, rfl⟩
abbrev main_v103_2 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_c_17 : Ref sig .tc := ⟨.hbm, 143, rfl⟩
abbrev main_call5_v0 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem8_1 : DmaSem sig := 16
abbrev cc1_sem9_0 : DmaSem sig := 17
abbrev cc1_sem9_1 : DmaSem sig := 18
abbrev cc1_sem10_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨2, ![8, 3], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x386x386 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S386x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S400x386 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x400x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![192], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S48x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S192x48 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S192x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x192 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1x1x1536 .i32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1536x64 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨2, ![8, 12], ![false, false]⟩

def k2_off1 (i : grid2.Coords) (c0_i32 : BitVec 32) (c0_i32_0 : BitVec 32) : Fin 4 → Nat :=
  let c0 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let v2 : BitVec 32 := Scalar.addi v1 c0_i32_0
  let v3 : Index := Scalar.indexCast v2
  let c0_1 : Index := 0#32
  let c0_2 : Index := 0#32
  ![0, v3.toNat, 0, 0]
def k2_off2 (i : grid2.Coords) (c0_i32_3 : BitVec 32) (c0_i32_4 : BitVec 32) : Fin 4 → Nat :=
  let c0_5 : Index := 0#32
  let arg1 : BitVec 32 := BitVec.ofNat 32 (i 1).val
  let c16_i32 : BitVec 32 := 16#32
  let v0 : BitVec 32 := Scalar.muli arg1 c16_i32
  let v6 : BitVec 32 := Scalar.addi v0 c0_i32_3
  let v7 : BitVec 32 := Scalar.addi v6 c0_i32_4
  let v8 : Index := Scalar.indexCast v7
  let c1 : Index := 1#32
  let c0_6 : Index := 0#32
  ![0, v8.toNat, 1, 0]
def k2_off3 (i : grid2.Coords) (c0_i32_37 : BitVec 32) (c0_i32_38 : BitVec 32) : Fin 4 → Nat :=
  let c0_39 : Index := 0#32
  let arg1 : BitVec 32 := BitVec.ofNat 32 (i 1).val
  let c16_i32 : BitVec 32 := 16#32
  let v0 : BitVec 32 := Scalar.muli arg1 c16_i32
  let v49 : BitVec 32 := Scalar.addi v0 c0_i32_37
  let v50 : BitVec 32 := Scalar.addi v49 c0_i32_38
  let v51 : Index := Scalar.indexCast v50
  let c2 : Index := 2#32
  let c0_40 : Index := 0#32
  ![0, v51.toNat, 2, 0]
def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

abbrev stage2_0 : Fin 2 → Memref sig .tc .vmem S1x194x194x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S4x256x192 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S3x192 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S3x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S4x1x1x3x3072 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== KernelIdeal.lean ====
variable {F : FTy → Type} [FloatOps F] [Named F]
def κ : String → Option EReal := fun
  | "two_over_count" => some ((1 / 9437184 : ℝ) : EReal)
  | _ => none
-- ==== ReferenceIdeal.lean ====
abbrev S8x3x384x384 : Shape := ⟨4, ![8, 3, 384, 384]⟩
abbrev S192x3x4x4 : Shape := ⟨4, ![192, 3, 4, 4]⟩
abbrev S192 : Shape := ⟨1, ![192]⟩
abbrev S64x192x1x1 : Shape := ⟨4, ![64, 192, 1, 1]⟩
abbrev S64 : Shape := ⟨1, ![64]⟩
abbrev S1024x64 : Shape := ⟨2, ![1024, 64]⟩
abbrev S192x64x4x4 : Shape := ⟨4, ![192, 64, 4, 4]⟩
abbrev S3x192x1x1 : Shape := ⟨4, ![3, 192, 1, 1]⟩
abbrev S3 : Shape := ⟨1, ![3]⟩
abbrev S_ : Shape := ⟨0, ![]⟩
abbrev S8x3x386x386 : Shape := ⟨4, ![8, 3, 386, 386]⟩
abbrev S8x3x192x192 : Shape := ⟨4, ![8, 3, 192, 192]⟩
abbrev S192x3x1x1 : Shape := ⟨4, ![192, 3, 1, 1]⟩
abbrev S192x3 : Shape := ⟨2, ![192, 3]⟩
abbrev S8x192x192x192 : Shape := ⟨4, ![8, 192, 192, 192]⟩
abbrev S1x192x1x1 : Shape := ⟨4, ![1, 192, 1, 1]⟩
abbrev S64x192 : Shape := ⟨2, ![64, 192]⟩
abbrev S8x192x192x64 : Shape := ⟨4, ![8, 192, 192, 64]⟩
abbrev S8x64x192x192 : Shape := ⟨4, ![8, 64, 192, 192]⟩
abbrev S1x64x1x1 : Shape := ⟨4, ![1, 64, 1, 1]⟩
abbrev S294912x64 : Shape := ⟨2, ![294912, 64]⟩
abbrev S294912 : Shape := ⟨1, ![294912]⟩
abbrev S294912x1 : Shape := ⟨2, ![294912, 1]⟩
abbrev S64x1024 : Shape := ⟨2, ![64, 1024]⟩
abbrev S294912x1024 : Shape := ⟨2, ![294912, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S8x64x387x387 : Shape := ⟨4, ![8, 64, 387, 387]⟩
abbrev S8x64x384x384 : Shape := ⟨4, ![8, 64, 384, 384]⟩
abbrev S192x64x1x1 : Shape := ⟨4, ![192, 64, 1, 1]⟩
abbrev S192x64 : Shape := ⟨2, ![192, 64]⟩
abbrev S8x384x384x192 : Shape := ⟨4, ![8, 384, 384, 192]⟩
abbrev S8x192x384x384 : Shape := ⟨4, ![8, 192, 384, 384]⟩
abbrev S3x192 : Shape := ⟨2, ![3, 192]⟩
abbrev S8x384x384x3 : Shape := ⟨4, ![8, 384, 384, 3]⟩
abbrev S1x3x1x1 : Shape := ⟨4, ![1, 3, 1, 1]⟩
abbrev S8x192x192 : Shape := ⟨3, ![8, 192, 192]⟩

abbrev nBuf : Space → Nat
  | .hbm => 300
  | .vmem => 0
  | .smem => 0
  | _ => 0

abbrev hbmTy0_0 (i : Nat) : BufTy := match i % 128 with
  | 0 => ⟨S8x3x384x384, .f32⟩
  | 1 => ⟨S192x3x4x4, .f32⟩
  | 2 => ⟨S192, .f32⟩
  | 3 => ⟨S64x192x1x1, .f32⟩
  | 4 => ⟨S64, .f32⟩
  | 5 => ⟨S1024x64, .f32⟩
  | 6 => ⟨S192x64x4x4, .f32⟩
  | 7 => ⟨S192, .f32⟩
  | 8 => ⟨S3x192x1x1, .f32⟩
  | 9 => ⟨S3, .f32⟩
  | 10 => ⟨S_, .i32⟩
  | 11 => ⟨S_, .f32⟩
  | 12 => ⟨S8x3x386x386, .f32⟩
  | 13 => ⟨S8x3x192x192, .f32⟩
  | 14 => ⟨S192x3x1x1, .f32⟩
  | 15 => ⟨S192x3, .f32⟩
  | 16 => ⟨S8x192x192x192, .f32⟩
  | 17 => ⟨S8x192x192x192, .f32⟩
  | 18 => ⟨S8x3x192x192, .f32⟩
  | 19 => ⟨S192x3x1x1, .f32⟩
  | 20 => ⟨S192x3, .f32⟩
  | 21 => ⟨S8x192x192x192, .f32⟩
  | 22 => ⟨S8x192x192x192, .f32⟩
  | 23 => ⟨S8x192x192x192, .f32⟩
  | 24 => ⟨S8x3x192x192, .f32⟩
  | 25 => ⟨S192x3x1x1, .f32⟩
  | 26 => ⟨S192x3, .f32⟩
  | 27 => ⟨S8x192x192x192, .f32⟩
  | 28 => ⟨S8x192x192x192, .f32⟩
  | 29 => ⟨S8x192x192x192, .f32⟩
  | 30 => ⟨S8x3x192x192, .f32⟩
  | 31 => ⟨S192x3x1x1, .f32⟩
  | 32 => ⟨S192x3, .f32⟩
  | 33 => ⟨S8x192x192x192, .f32⟩
  | 34 => ⟨S8x192x192x192, .f32⟩
  | 35 => ⟨S8x192x192x192, .f32⟩
  | 36 => ⟨S8x3x192x192, .f32⟩
  | 37 => ⟨S192x3x1x1, .f32⟩
  | 38 => ⟨S192x3, .f32⟩
  | 39 => ⟨S8x192x192x192, .f32⟩
  | 40 => ⟨S8x192x192x192, .f32⟩
  | 41 => ⟨S8x192x192x192, .f32⟩
  | 42 => ⟨S8x3x192x192, .f32⟩
  | 43 => ⟨S192x3x1x1, .f32⟩
  | 44 => ⟨S192x3, .f32⟩
  | 45 => ⟨S8x192x192x192, .f32⟩
  | 46 => ⟨S8x192x192x192, .f32⟩
  | 47 => ⟨S8x192x192x192, .f32⟩
  | 48 => ⟨S8x3x192x192, .f32⟩
  | 49 => ⟨S192x3x1x1, .f32⟩
  | 50 => ⟨S192x3, .f32⟩
  | 51 => ⟨S8x192x192x192, .f32⟩
  | 52 => ⟨S8x192x192x192, .f32⟩
  | 53 => ⟨S8x192x192x192, .f32⟩
  | 54 => ⟨S8x3x192x192, .f32⟩
  | 55 => ⟨S192x3x1x1, .f32⟩
  | 56 => ⟨S192x3, .f32⟩
  | 57 => ⟨S8x192x192x192, .f32⟩
  | 58 => ⟨S8x192x192x192, .f32⟩
  | 59 => ⟨S8x192x192x192, .f32⟩
  | 60 => ⟨S8x3x192x192, .f32⟩
  | 61 => ⟨S192x3x1x1, .f32⟩
  | 62 => ⟨S192x3, .f32⟩
  | 63 => ⟨S8x192x192x192, .f32⟩
  | 64 => ⟨S8x192x192x192, .f32⟩
  | 65 => ⟨S8x192x192x192, .f32⟩
  | 66 => ⟨S8x3x192x192, .f32⟩
  | 67 => ⟨S192x3x1x1, .f32⟩
  | 68 => ⟨S192x3, .f32⟩
  | 69 => ⟨S8x192x192x192, .f32⟩
  | 70 => ⟨S8x192x192x192, .f32⟩
  | 71 => ⟨S8x192x192x192, .f32⟩
  | 72 => ⟨S8x3x192x192, .f32⟩
  | 73 => ⟨S192x3x1x1, .f32⟩
  | 74 => ⟨S192x3, .f32⟩
  | 75 => ⟨S8x192x192x192, .f32⟩
  | 76 => ⟨S8x192x192x192, .f32⟩
  | 77 => ⟨S8x192x192x192, .f32⟩
  | 78 => ⟨S8x3x192x192, .f32⟩
  | 79 => ⟨S192x3x1x1, .f32⟩
  | 80 => ⟨S192x3, .f32⟩
  | 81 => ⟨S8x192x192x192, .f32⟩
  | 82 => ⟨S8x192x192x192, .f32⟩
  | 83 => ⟨S8x192x192x192, .f32⟩
  | 84 => ⟨S8x3x192x192, .f32⟩
  | 85 => ⟨S192x3x1x1, .f32⟩
  | 86 => ⟨S192x3, .f32⟩
  | 87 => ⟨S8x192x192x192, .f32⟩
  | 88 => ⟨S8x192x192x192, .f32⟩
  | 89 => ⟨S8x192x192x192, .f32⟩
  | 90 => ⟨S8x3x192x192, .f32⟩
  | 91 => ⟨S192x3x1x1, .f32⟩
  | 92 => ⟨S192x3, .f32⟩
  | 93 => ⟨S8x192x192x192, .f32⟩
  | 94 => ⟨S8x192x192x192, .f32⟩
  | 95 => ⟨S8x192x192x192, .f32⟩
  | 96 => ⟨S8x3x192x192, .f32⟩
  | 97 => ⟨S192x3x1x1, .f32⟩
  | 98 => ⟨S192x3, .f32⟩
  | 99 => ⟨S8x192x192x192, .f32⟩
  | 100 => ⟨S8x192x192x192, .f32⟩
  | 101 => ⟨S8x192x192x192, .f32⟩
  | 102 => ⟨S8x3x192x192, .f32⟩
  | 103 => ⟨S192x3x1x1, .f32⟩
  | 104 => ⟨S192x3, .f32⟩
  | 105 => ⟨S8x192x192x192, .f32⟩
  | 106 => ⟨S8x192x192x192, .f32⟩
  | 107 => ⟨S8x192x192x192, .f32⟩
  | 108 => ⟨S1x192x1x1, .f32⟩
  | 109 => ⟨S8x192x192x192, .f32⟩
  | 110 => ⟨S8x192x192x192, .f32⟩
  | 111 => ⟨S_, .f32⟩
  | 112 => ⟨S8x192x192x192, .f32⟩
  | 113 => ⟨S8x192x192x192, .f32⟩
  | 114 => ⟨S64x192, .f32⟩
  | 115 => ⟨S8x192x192x64, .f32⟩
  | 116 => ⟨S8x64x192x192, .f32⟩
  | 117 => ⟨S1x64x1x1, .f32⟩
  | 118 => ⟨S8x64x192x192, .f32⟩
  | 119 => ⟨S8x64x192x192, .f32⟩
  | 120 => ⟨S8x192x192x64, .f32⟩
  | 121 => ⟨S294912x64, .f32⟩
  | 122 => ⟨S294912x64, .f32⟩
  | 123 => ⟨S_, .f32⟩
  | 124 => ⟨S294912, .f32⟩
  | 125 => ⟨S294912x1, .f32⟩
  | 126 => ⟨S64x1024, .f32⟩
  | 127 => ⟨S294912x1024, .f32⟩
  | _ => ⟨S8x3x384x384, .f32⟩

abbrev hbmTy0_1 (i : Nat) : BufTy := match i % 128 with
  | 0 => ⟨S_, .f32⟩
  | 1 => ⟨S294912x1024, .f32⟩
  | 2 => ⟨S294912x1024, .f32⟩
  | 3 => ⟨S294912x1024, .f32⟩
  | 4 => ⟨S294912x1024, .f32⟩
  | 5 => ⟨S1024x64, .f32⟩
  | 6 => ⟨S_, .f32⟩
  | 7 => ⟨S1024, .f32⟩
  | 8 => ⟨S1x1024, .f32⟩
  | 9 => ⟨S294912x1024, .f32⟩
  | 10 => ⟨S294912x1024, .f32⟩
  | 11 => ⟨S294912x1024, .i32⟩
  | 12 => ⟨S_, .f32⟩
  | 13 => ⟨S_, .i32⟩
  | 14 => ⟨S294912, .f32⟩
  | 15 => ⟨S294912, .i32⟩
  | 16 => ⟨S_, .i32⟩
  | 17 => ⟨S294912, .i32⟩
  | 18 => ⟨S294912, .i1⟩
  | 19 => ⟨S_, .i32⟩
  | 20 => ⟨S294912, .i32⟩
  | 21 => ⟨S294912, .i32⟩
  | 22 => ⟨S294912, .i32⟩
  | 23 => ⟨S294912x1, .i32⟩
  | 24 => ⟨S1, .i32⟩
  | 25 => ⟨S_, .i32⟩
  | 26 => ⟨S294912x1, .i32⟩
  | 27 => ⟨S294912x1, .i1⟩
  | 28 => ⟨S1x1, .i32⟩
  | 29 => ⟨S294912x1, .i32⟩
  | 30 => ⟨S294912x1, .i1⟩
  | 31 => ⟨S294912x1, .i1⟩
  | 32 => ⟨S_, .i1⟩
  | 33 => ⟨S294912, .i1⟩
  | 34 => ⟨S294912x64, .f32⟩
  | 35 => ⟨S294912x64, .i1⟩
  | 36 => ⟨S_, .f32⟩
  | 37 => ⟨S294912x64, .f32⟩
  | 38 => ⟨S294912x64, .f32⟩
  | 39 => ⟨S8x192x192x64, .f32⟩
  | 40 => ⟨S8x64x192x192, .f32⟩
  | 41 => ⟨S_, .f32⟩
  | 42 => ⟨S8x64x387x387, .f32⟩
  | 43 => ⟨S8x64x384x384, .f32⟩
  | 44 => ⟨S192x64x1x1, .f32⟩
  | 45 => ⟨S192x64, .f32⟩
  | 46 => ⟨S8x384x384x192, .f32⟩
  | 47 => ⟨S8x192x384x384, .f32⟩
  | 48 => ⟨S8x64x384x384, .f32⟩
  | 49 => ⟨S192x64x1x1, .f32⟩
  | 50 => ⟨S192x64, .f32⟩
  | 51 => ⟨S8x384x384x192, .f32⟩
  | 52 => ⟨S8x192x384x384, .f32⟩
  | 53 => ⟨S8x192x384x384, .f32⟩
  | 54 => ⟨S8x64x384x384, .f32⟩
  | 55 => ⟨S192x64x1x1, .f32⟩
  | 56 => ⟨S192x64, .f32⟩
  | 57 => ⟨S8x384x384x192, .f32⟩
  | 58 => ⟨S8x192x384x384, .f32⟩
  | 59 => ⟨S8x192x384x384, .f32⟩
  | 60 => ⟨S8x64x384x384, .f32⟩
  | 61 => ⟨S192x64x1x1, .f32⟩
  | 62 => ⟨S192x64, .f32⟩
  | 63 => ⟨S8x384x384x192, .f32⟩
  | 64 => ⟨S8x192x384x384, .f32⟩
  | 65 => ⟨S8x192x384x384, .f32⟩
  | 66 => ⟨S8x64x384x384, .f32⟩
  | 67 => ⟨S192x64x1x1, .f32⟩
  | 68 => ⟨S192x64, .f32⟩
  | 69 => ⟨S8x384x384x192, .f32⟩
  | 70 => ⟨S8x192x384x384, .f32⟩
  | 71 => ⟨S8x192x384x384, .f32⟩
  | 72 => ⟨S8x64x384x384, .f32⟩
  | 73 => ⟨S192x64x1x1, .f32⟩
  | 74 => ⟨S192x64, .f32⟩
  | 75 => ⟨S8x384x384x192, .f32⟩
  | 76 => ⟨S8x192x384x384, .f32⟩
  | 77 => ⟨S8x192x384x384, .f32⟩
  | 78 => ⟨S8x64x384x384, .f32⟩
  | 79 => ⟨S192x64x1x1, .f32⟩
  | 80 => ⟨S192x64, .f32⟩
  | 81 => ⟨S8x384x384x192, .f32⟩
  | 82 => ⟨S8x192x384x384, .f32⟩
  | 83 => ⟨S8x192x384x384, .f32⟩
  | 84 => ⟨S8x64x384x384, .f32⟩
  | 85 => ⟨S192x64x1x1, .f32⟩
  | 86 => ⟨S192x64, .f32⟩
  | 87 => ⟨S8x384x384x192, .f32⟩
  | 88 => ⟨S8x192x384x384, .f32⟩
  | 89 => ⟨S8x192x384x384, .f32⟩
  | 90 => ⟨S8x64x384x384, .f32⟩
  | 91 => ⟨S192x64x1x1, .f32⟩
  | 92 => ⟨S192x64, .f32⟩
  | 93 => ⟨S8x384x384x192, .f32⟩
  | 94 => ⟨S8x192x384x384, .f32⟩
  | 95 => ⟨S8x192x384x384, .f32⟩
  | 96 => ⟨S8x64x384x384, .f32⟩
  | 97 => ⟨S192x64x1x1, .f32⟩
  | 98 => ⟨S192x64, .f32⟩
  | 99 => ⟨S8x384x384x192, .f32⟩
  | 100 => ⟨S8x192x384x384, .f32⟩
  | 101 => ⟨S8x192x384x384, .f32⟩
  | 102 => ⟨S8x64x384x384, .f32⟩
  | 103 => ⟨S192x64x1x1, .f32⟩
  | 104 => ⟨S192x64, .f32⟩
  | 105 => ⟨S8x384x384x192, .f32⟩
  | 106 => ⟨S8x192x384x384, .f32⟩
  | 107 => ⟨S8x192x384x384, .f32⟩
  | 108 => ⟨S8x64x384x384, .f32⟩
  | 109 => ⟨S192x64x1x1, .f32⟩
  | 110 => ⟨S192x64, .f32⟩
  | 111 => ⟨S8x384x384x192, .f32⟩
  | 112 => ⟨S8x192x384x384, .f32⟩
  | 113 => ⟨S8x192x384x384, .f32⟩
  | 114 => ⟨S8x64x384x384, .f32⟩
  | 115 => ⟨S192x64x1x1, .f32⟩
  | 116 => ⟨S192x64, .f32⟩
  | 117 => ⟨S8x384x384x192, .f32⟩
  | 118 => ⟨S8x192x384x384, .f32⟩
  | 119 => ⟨S8x192x384x384, .f32⟩
  | 120 => ⟨S8x64x384x384, .f32⟩
  | 121 => ⟨S192x64x1x1, .f32⟩
  | 122 => ⟨S192x64, .f32⟩
  | 123 => ⟨S8x384x384x192, .f32⟩
  | 124 => ⟨S8x192x384x384, .f32⟩
  | 125 => ⟨S8x192x384x384, .f32⟩
  | 126 => ⟨S8x64x384x384, .f32⟩
  | 127 => ⟨S192x64x1x1, .f32⟩
  | _ => ⟨S8x3x384x384, .f32⟩

abbrev hbmTy0_2 (i : Nat) : BufTy := match i % 128 with
  | 0 => ⟨S192x64, .f32⟩
  | 1 => ⟨S8x384x384x192, .f32⟩
  | 2 => ⟨S8x192x384x384, .f32⟩
  | 3 => ⟨S8x192x384x384, .f32⟩
  | 4 => ⟨S8x64x384x384, .f32⟩
  | 5 => ⟨S192x64x1x1, .f32⟩
  | 6 => ⟨S192x64, .f32⟩
  | 7 => ⟨S8x384x384x192, .f32⟩
  | 8 => ⟨S8x192x384x384, .f32⟩
  | 9 => ⟨S8x192x384x384, .f32⟩
  | 10 => ⟨S1x192x1x1, .f32⟩
  | 11 => ⟨S8x192x384x384, .f32⟩
  | 12 => ⟨S8x192x384x384, .f32⟩
  | 13 => ⟨S_, .f32⟩
  | 14 => ⟨S8x192x384x384, .f32⟩
  | 15 => ⟨S8x192x384x384, .f32⟩
  | 16 => ⟨S3x192, .f32⟩
  | 17 => ⟨S8x384x384x3, .f32⟩
  | 18 => ⟨S8x3x384x384, .f32⟩
  | 19 => ⟨S1x3x1x1, .f32⟩
  | 20 => ⟨S8x3x384x384, .f32⟩
  | 21 => ⟨S8x3x384x384, .f32⟩
  | 22 => ⟨S8x3x384x384, .f32⟩
  | 23 => ⟨S8x3x384x384, .f32⟩
  | 24 => ⟨S_, .f32⟩
  | 25 => ⟨S8x3x384x384, .f32⟩
  | 26 => ⟨S8x3x384x384, .f32⟩
  | 27 => ⟨S_, .f32⟩
  | 28 => ⟨S8x3x384x384, .f32⟩
  | 29 => ⟨S8x3x384x384, .f32⟩
  | 30 => ⟨S8x64x192x192, .f32⟩
  | 31 => ⟨S8x64x192x192, .f32⟩
  | 32 => ⟨S_, .f32⟩
  | 33 => ⟨S_, .f32⟩
  | 34 => ⟨S_, .f32⟩
  | 35 => ⟨S_, .f32⟩
  | 36 => ⟨S8x64x192x192, .f32⟩
  | 37 => ⟨S8x64x192x192, .f32⟩
  | 38 => ⟨S_, .f32⟩
  | 39 => ⟨S_, .f32⟩
  | 40 => ⟨S_, .f32⟩
  | 41 => ⟨S_, .f32⟩
  | 42 => ⟨S_, .f32⟩
  | 43 => ⟨S8x192x192, .i32⟩
  | _ => ⟨S8x3x384x384, .f32⟩

abbrev hbmTy (i : Nat) : BufTy := match i / 128 with
  | 0 => hbmTy0_0 i
  | 1 => hbmTy0_1 i
  | 2 => hbmTy0_2 i
  | _ => ⟨S8x3x384x384, .f32⟩

abbrev bufTy : (tb : Table) → Fin (tcTables nBuf tb) → BufTy
  | .hbm, ⟨i, _⟩ => hbmTy i
  | _, _ => ⟨S8x3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_call1_cst : Ref sig .tc := ⟨.hbm, 111, rfl⟩
abbrev main_call1_v0 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_cst : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_cst_0 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_cst_1 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_call2_v0 : Ref sig .tc := ⟨.hbm, 139, rfl⟩
abbrev main_call2_cst : Ref sig .tc := ⟨.hbm, 140, rfl⟩
abbrev main_call2_c : Ref sig .tc := ⟨.hbm, 141, rfl⟩
abbrev main_call2_v1_0 : Ref sig .tc := ⟨.hbm, 142, rfl⟩
abbrev main_v122 : Ref sig .tc := ⟨.hbm, 143, rfl⟩
abbrev main_call3_c : Ref sig .tc := ⟨.hbm, 144, rfl⟩
abbrev main_call3_v0 : Ref sig .tc := ⟨.hbm, 145, rfl⟩
abbrev main_call3_v1 : Ref sig .tc := ⟨.hbm, 146, rfl⟩
abbrev main_call3_c_0 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_call3_v5 : Ref sig .tc := ⟨.hbm, 151, rfl⟩
abbrev main_call3_c_1 : Ref sig .tc := ⟨.hbm, 152, rfl⟩
abbrev main_call3_c_2 : Ref sig .tc := ⟨.hbm, 153, rfl⟩
abbrev main_call3_v6 : Ref sig .tc := ⟨.hbm, 154, rfl⟩
abbrev main_call3_v7 : Ref sig .tc := ⟨.hbm, 155, rfl⟩
abbrev main_call3_v8 : Ref sig .tc := ⟨.hbm, 156, rfl⟩
abbrev main_call3_v9 : Ref sig .tc := ⟨.hbm, 157, rfl⟩
abbrev main_call3_v10 : Ref sig .tc := ⟨.hbm, 158, rfl⟩
abbrev main_call3_v11 : Ref sig .tc := ⟨.hbm, 159, rfl⟩
abbrev main_call3_c_3 : Ref sig .tc := ⟨.hbm, 160, rfl⟩
abbrev main_call3_v12 : Ref sig .tc := ⟨.hbm, 161, rfl⟩
abbrev main_call3_v13 : Ref sig .tc := ⟨.hbm, 162, rfl⟩
abbrev main_call3_v14 : Ref sig .tc := ⟨.hbm, 163, rfl⟩
abbrev main_call3_cst : Ref sig .tc := ⟨.hbm, 164, rfl⟩
abbrev main_call3_v15 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_2 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_call4_cst : Ref sig .tc := ⟨.hbm, 269, rfl⟩
abbrev main_call4_v0 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_cst_3 : Ref sig .tc := ⟨.hbm, 280, rfl⟩
abbrev main_v234 : Ref sig .tc := ⟨.hbm, 281, rfl⟩
abbrev main_v235 : Ref sig .tc := ⟨.hbm, 282, rfl⟩
abbrev main_cst_4 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_cst_5 : Ref sig .tc := ⟨.hbm, 288, rfl⟩
abbrev main_v240 : Ref sig .tc := ⟨.hbm, 289, rfl⟩
abbrev main_cst_6 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_cst_7 : Ref sig .tc := ⟨.hbm, 294, rfl⟩
abbrev main_v244 : Ref sig .tc := ⟨.hbm, 295, rfl⟩
abbrev main_cst_8 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩

abbrev nD : Nat := 1
abbrev τ : Topo := Topo.v7x

variable {F : FTy → Type} [FloatOps F]
-- ==== Proof.Run.lean ====
/- The kernel's run with its results named: the reconstruction, the loss and the indices end holding what the last
   boundary's contents (`Gen.W17`) hold at their buffers, and the arguments end as launched. -/
module

public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel terminates without fault; each result holds the last boundary's contents of its buffer, and each argument
    is as it was launched. -/
theorem run : θ_run defs (onTc (τ := τ) (main (F := F))) ⟨m, fun _ => 0, ρ⟩ (fun r => ∀ c : Dev nD,
      r.2.mem ((c.tc : Thread nD τ).loc main_v130) = W17 m ρ c (Proc.devRef .tc main_v130)
      ∧ r.2.mem ((c.tc : Thread nD τ).loc main_v105) = W17 m ρ c (Proc.devRef .tc main_v105)
      ∧ r.2.mem ((c.tc : Thread nD τ).loc main_v104) = W17 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h _ => fun c => ⟨h c _ (mem_uc main_v130 (by decide)), h c _ (mem_uc main_v105 (by decide)),
      h c _ (mem_uc main_v104 (by decide)),
      (h c _ (mem_uc main_arg0 (by decide))).trans (W17_main_arg0 m ρ c),
      (h c _ (mem_uc main_arg1 (by decide))).trans (W17_main_arg1 m ρ c),
      (h c _ (mem_uc main_arg2 (by decide))).trans (W17_main_arg2 m ρ c),
      (h c _ (mem_uc main_arg3 (by decide))).trans (W17_main_arg3 m ρ c),
      (h c _ (mem_uc main_arg4 (by decide))).trans (W17_main_arg4 m ρ c),
      (h c _ (mem_uc main_arg5 (by decide))).trans (W17_main_arg5 m ρ c),
      (h c _ (mem_uc main_arg6 (by decide))).trans (W17_main_arg6 m ρ c),
      (h c _ (mem_uc main_arg7 (by decide))).trans (W17_main_arg7 m ρ c),
      (h c _ (mem_uc main_arg8 (by decide))).trans (W17_main_arg8 m ρ c),
      (h c _ (mem_uc main_arg9 (by decide))).trans (W17_main_arg9 m ρ c)⟩)

end Cert.KernelIdeal.Val

end
-- ==== Proof.Region0.lean ====
/- The first region's array: each image's padded plane with its even and odd rows and columns pulled apart, as the two
   products by one-hot matrices the region computes. -/
module

public import proofs.«01_k».proof.Proof.Gen.KernelIdeal.Frame
public import Idealize.ShloMosaic.Lib.Pipeline.ValueKit

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen

/-- Rows picked by `R` from the plane (b, c) of `X` after its columns were picked by `S`. -/
def deint (X : FVec Ideal S8x3x386x386 .bf16) (S : FVec Ideal S386x512 .bf16) (R : FVec Ideal S400x386 .bf16) :
    FVec Ideal S8x3x400x512 .bf16 :=
  fun y => ∑ i : Fin 386, R (ix2 (y 2) i) * ∑ j : Fin 386, X (ix4 (y 0) (y 1) i j) * S (ix2 j (y 3))

/-- The windows' block coordinates at every point. -/
theorem idx0 : ∀ t : Fin cfg0.N, win0_0.index t = ![(grid0.coords t 0).val, (grid0.coords t 1).val, 0, 0]
    ∧ win0_1.index t = ![0, 0] ∧ win0_2.index t = ![0, 0]
    ∧ win0_3.index t = ![(grid0.coords t 0).val, (grid0.coords t 1).val, 0, 0] :=
  (by decide +kernel : ∀ t : Fin grid0.N, _)

/-- What the body stores, at an index. -/
theorem pay0 (x : Vec Ideal S1x1x386x386 .bf16) (s : Vec Ideal S386x512 .bf16) (r : Vec Ideal S400x386 .bf16) (j) :
    k0_pay1 (F := Ideal) x s r j = ∑ i : Fin 386, r (ix2 (j 2) i) * ∑ k : Fin 386, x (ix4 0 0 i k) * s (ix2 k (j 3)) := by
  pointwise [k0_pay1]

/-- The first region's array. -/
theorem arr0 (V : (c : Dev nD) → (b : Ref sig .tc) → Buf (Elt Ideal) ((c : Thread nD τ).loc b)) (c : Dev nD) :
    (dat0 (F := Ideal) V c).arrAt 3 cfg0.N
      = deint (V c (Pipeline.arrRef spec0 0)) (V c (Pipeline.arrRef spec0 1)) (V c (Pipeline.arrRef spec0 2)) := by
  refine (dat0 V c).arrAt_eq_of_covers 3 _ (by decide +kernel) fun t _ y => ?_
  blk_simp
  rw [after0_3]; frame_out
  rw [pay0]
  unfold deint
  blk_point [iblk0, idx0 t]

end Cert.KernelIdeal.Val

end
-- ==== Proof.Pick.lean ====
/- The place of a least value: the least index at which a finite family of extended reals is least, the minimum folded
   over the family, and the minimum folded over the indices that attain it. -/
module

public import Idealize.ShloMosaic.PureOps.Ideal

@[expose] public section

noncomputable section

namespace Cert.Vq

open Idealize.ShloMosaic

variable {n : ℕ} [NeZero n]

/-- A finite nonempty family has an index at which it is least. -/
theorem least_nonempty (u : Fin n → EReal) : (Finset.univ.filter fun k : Fin n => ∀ j, u k ≤ u j).Nonempty := by
  obtain ⟨k, hk⟩ := Finite.exists_min u
  exact ⟨k, by simpa using hk⟩

/-- The least index at which the family is least. -/
def first (u : Fin n → EReal) : Fin n := (Finset.univ.filter fun k : Fin n => ∀ j, u k ≤ u j).min' (least_nonempty u)

/-- The family is least there. -/
theorem first_le (u : Fin n → EReal) (j : Fin n) : u (first u) ≤ u j :=
  (Finset.mem_filter.mp ((Finset.univ.filter fun k : Fin n => ∀ j, u k ≤ u j).min'_mem (least_nonempty u))).2 j

/-- No smaller index attains the least value. -/
theorem first_min (u : Fin n → EReal) (k : Fin n) (h : ∀ j, u k ≤ u j) : first u ≤ k :=
  Finset.min'_le _ _ (by simpa using h)

/-- Two families that order their indices alike have the same first least index. -/
theorem first_congr (u v : Fin n → EReal) (h : ∀ a b, u a ≤ u b ↔ v a ≤ v b) : first u = first v :=
  le_antisymm (first_min u _ fun j => (h _ _).mpr (first_le v j)) (first_min v _ fun j => (h _ _).mp (first_le u j))

/-- An index that attains the least value and is below every other that does is the first one. -/
theorem first_eq (u : Fin n → EReal) (k : Fin n) (h : ∀ j, u k ≤ u j) (h' : ∀ j, j < k → u k < u j) : first u = k :=
  le_antisymm (first_min u k h) (not_lt.mp fun hl => absurd (first_le u k) (not_le.mpr (h' _ hl)))

/-- The minimum folded over the family, from the top, is the value at the first least index. -/
theorem fold_min_eq (u : Fin n → EReal) : Finset.fold min ⊤ u Finset.univ = u (first u) :=
  le_antisymm (Finset.fold_min_le _ |>.mpr (.inr ⟨first u, Finset.mem_univ _, le_rfl⟩))
    (Finset.le_fold_min _ |>.mpr ⟨le_top, fun j _ => first_le u j⟩)

/-- The minimum folded over the indices that attain the least value, any other index counted as `n`, is the first one. -/
theorem fold_pick (u : Fin n → EReal) (N : EReal) (hN : ∀ k : Fin n, ((k.val : ℝ) : EReal) ≤ N) :
    Finset.fold min ⊤ (fun k : Fin n => if u k ≤ u (first u) then ((k.val : ℝ) : EReal) else N) Finset.univ
      = (((first u).val : ℝ) : EReal) := by
  refine le_antisymm (Finset.fold_min_le _ |>.mpr (.inr ⟨first u, Finset.mem_univ _, ?_⟩))
    (Finset.le_fold_min _ |>.mpr ⟨le_top, fun j _ => ?_⟩)
  · rw [if_pos le_rfl]
  · by_cases h : u j ≤ u (first u)
    · rw [if_pos h]
      have := first_min u j fun i => h.trans (first_le u i)
      exact_mod_cast this
    · rw [if_neg h]; exact hN _

/-- A small natural number, rounded toward zero, is itself. -/
theorem fptosi_nat (k : ℕ) (hk : k < 2 ^ 31) : Ideal.fptosi 32 ((k : ℝ) : EReal) = BitVec.ofNat 32 k := by
  unfold Ideal.fptosi
  have : Ideal.toIntClamped (-(2 ^ (32 - 1) : ℕ)) ((2 ^ (32 - 1) : ℕ) - 1) ((k : ℝ) : EReal) = (k : ℤ) := by
    show max _ (min _ (if (0 : ℝ) ≤ (k : ℝ) then ⌊(k : ℝ)⌋ else ⌈(k : ℝ)⌉)) = (k : ℤ)
    rw [if_pos (Nat.cast_nonneg k), Int.floor_natCast]
    omega
  rw [this]
  exact BitVec.ofInt_natCast 32 k

/-- A small natural number's word reads back as the number. -/
theorem toInt_ofNat (k : ℕ) (hk : k < 2 ^ 31) : (BitVec.ofNat 32 k).toInt = (k : ℤ) := by
  rw [BitVec.toInt_eq_toNat_of_lt] <;> simp [BitVec.toNat_ofNat] <;> omega

/-- A sum with one index picked by a weight that is one there and zero elsewhere. -/
theorem sum_pick {m : ℕ} (f : Fin m → EReal) (k : Fin m) (w : Fin m → EReal) (hw : ∀ i, w i = if i = k then 1 else 0) :
    ∑ i, f i * w i = f k := by
  rw [Finset.sum_eq_single k]
  · rw [hw, if_pos rfl, mul_one]
  · intro i _ hi; rw [hw, if_neg hi, mul_zero]
  · intro h; exact absurd (Finset.mem_univ _) h

/-- The same with the weight on the left. -/
theorem sum_pick' {m : ℕ} (f : Fin m → EReal) (k : Fin m) (w : Fin m → EReal) (hw : ∀ i, w i = if i = k then 1 else 0) :
    ∑ i, w i * f i = f k := by
  rw [← sum_pick f k w hw]; exact Finset.sum_congr rfl fun i _ => mul_comm _ _

end Cert.Vq

end
-- ==== Proof.Region1Pay.lean ====
/- What one point of the second region stores: for each pixel the index of the nearest codebook row, that row, and its part of the loss. -/
module

public import proofs.«01_k».proof.Proof.Gen.KernelIdeal.Frame
public import proofs.«01_k».proof.Proof.Pick
public import Idealize.ShloMosaic.Lib.Pipeline.ValueKit

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.Vq

/-- The hidden channel `o` of the encoder over a patch `p`. -/
def hid (w1 : Vec Ideal S192x48 .bf16) (b1 : Vec Ideal S192x1 .f32) (p : Fin 48 → EReal) (o : Fin 192) : EReal :=
  max (∑ k : Fin 48, w1 (ix2 o k) * p k + b1 (ix2 o 0)) 0

/-- The encoder's channel `d` over a patch `p`. -/
def zed (w1 : Vec Ideal S192x48 .bf16) (b1 : Vec Ideal S192x1 .f32) (w2 : Vec Ideal S64x192 .bf16) (b2 : Vec Ideal S64x1 .f32)
    (p : Fin 48 → EReal) (d : Fin 64) : EReal :=
  ∑ o : Fin 192, w2 (ix2 d o) * hid w1 b1 p o + b2 (ix2 d 0)

/-- The score of codebook row `k` against an encoded pixel `z`. -/
def sco (cb : Vec Ideal S1024x64 .bf16) (c2 : Vec Ideal S1024x1 .f32) (z : Fin 64 → EReal) (k : Fin 1024) : EReal :=
  ∑ d : Fin 64, cb (ix2 k d) * z d + c2 (ix2 k 0)

/-- A pixel's part of the loss: its least score and the square of its encoding. -/
def part (w1 : Vec Ideal S192x48 .bf16) (b1 : Vec Ideal S192x1 .f32) (w2 : Vec Ideal S64x192 .bf16)
  (b2 : Vec Ideal S64x1 .f32) (cb : Vec Ideal S1024x64 .bf16) (c2 : Vec Ideal S1024x1 .f32) (p : Fin 48 → EReal) : EReal :=
  sco cb c2 (zed w1 b1 w2 b2 p) (first (sco cb c2 (zed w1 b1 w2 b2 p))) + ∑ d : Fin 64, zed w1 b1 w2 b2 p d * zed w1 b1 w2 b2 p d

/-- The pattern of the greatest float is the top. -/
theorem top_bits : Ideal.ofBits FTy.f32 0x7F800000#32 = ⊤ := by simp [Ideal.ofBits, Ideal.ieee]

/-- The named scale's value. -/
theorem named_val : (Named.named (F := Ideal) κ "two_over_count" (φ := .f32) 0x33E38E39#32 : EReal) = ((1 / 9437184 : ℝ) : EReal) := by
  show (κ "two_over_count").getD _ = _
  rw [show κ "two_over_count" = some ((1 / 9437184 : ℝ) : EReal) from rfl, Option.getD_some]

/-- The pattern of 1024 is 1024. -/
theorem thousand_bits : Ideal.ofBits FTy.f32 0x44800000#32 = ((1024 : ℝ) : EReal) := by
  simp [Ideal.ofBits, Ideal.ieee, -EReal.coe_mul]; norm_num

section Pay

variable (w1 : Vec Ideal S192x48 .bf16) (p : Vec Ideal S48x1536 .bf16) (b1 : Vec Ideal S192x1 .f32) (w2 : Vec Ideal S64x192 .bf16)
  (b2 : Vec Ideal S64x1 .f32) (cb : Vec Ideal S1024x64 .bf16) (c2 : Vec Ideal S1024x1 .f32)

/-- The encoded pixels. -/
theorem pay5 (j) : k1_pay5 (F := Ideal) w1 p b1 w2 b2 j = zed w1 b1 w2 b2 (fun k => p (ix2 k (j 1))) (j 0) := by
  unfold zed hid
  pointwise [k1_pay5]

/-- The scores. -/
theorem pay6 (j) : k1_pay6 (F := Ideal) w1 p b1 w2 b2 cb c2 j
    = sco cb c2 (fun d => zed w1 b1 w2 b2 (fun k => p (ix2 k (j 1))) d) (j 0) := by
  unfold sco
  pointwise [k1_pay6]
  simp only [pay5]; rfl

/-- The least score. -/
theorem pay7 (j) : k1_pay7 (F := Ideal) w1 p b1 w2 b2 cb c2 j
    = (let u := sco cb c2 (fun d => zed w1 b1 w2 b2 (fun k => p (ix2 k (j 1))) d); u (first u)) := by
  pointwise [k1_pay7]
  rw [top_bits]
  simp only [pay6]
  exact fold_min_eq _

/-- The first index that attains it, as a float. -/
theorem pay9 (j) : k1_pay9 (F := Ideal) w1 p b1 w2 b2 cb c2 j
    = (((first (sco cb c2 (fun d => zed w1 b1 w2 b2 (fun k => p (ix2 k (j 1))) d))).val : ℝ) : EReal) := by
  pointwise [k1_pay9, k1_pay8]
  rw [top_bits, thousand_bits]
  simp only [pay6, pay7]
  rw [← fold_pick _ ((1024 : ℝ) : EReal) (fun k => by exact_mod_cast k.isLt.le)]
  refine congrArg (fun f => Finset.fold min ⊤ f Finset.univ) (funext fun k => ?_)
  have : (FloatOps.sitofp (F := Ideal) FTy.f32 (BitVec.ofNat 32 k.val) : EReal) = ((k.val : ℝ) : EReal) := by
    show (((BitVec.ofNat 32 k.val).toInt : ℝ) : EReal) = _
    rw [toInt_ofNat _ (by omega)]; push_cast; rfl
  rw [this]; rfl

/-- The stored index. -/
theorem pay1 (j) : k1_pay1 (F := Ideal) (k1_pay9 (F := Ideal) w1 p b1 w2 b2 cb c2) j
    = BitVec.ofNat 32 (first (sco cb c2 (fun d => zed w1 b1 w2 b2 (fun k => p (ix2 k (j 2))) d))).val := by
  pointwise [k1_pay1]
  rw [pay9]
  exact fptosi_nat _ (by omega)

/-- The codebook row picked. -/
theorem pay2 (ct : Vec Ideal S64x1024 .bf16) (j) :
    k1_pay2 (F := Ideal) (k1_pay8 (F := Ideal)) (k1_pay10 (F := Ideal) w1 p b1 w2 b2 cb c2) ct j
      = ct (ix2 (j 1) (first (sco cb c2 (fun d => zed w1 b1 w2 b2 (fun k => p (ix2 k (j 0))) d)))) := by
  pointwise [k1_pay2, k1_pay10, k1_pay8]
  simp only [pay9]
  refine sum_pick (fun k : Fin 1024 => ct (ix2 (j 1) k)) _ _ fun k => ?_
  have : (FloatOps.sitofp (F := Ideal) FTy.f32 (BitVec.ofNat 32 k.val) : EReal) = ((k.val : ℝ) : EReal) := by
    show (((BitVec.ofNat 32 k.val).toInt : ℝ) : EReal) = _
    rw [toInt_ofNat _ (by omega)]; push_cast; rfl
  rw [this]
  by_cases h : k = first (sco cb c2 (fun d => zed w1 b1 w2 b2 (fun i => p (ix2 i (j 0))) d))
  · rw [if_pos h]
    simp [← h]
    show (((1#32 : BitVec 32).toInt : ℝ) : EReal) = 1
    norm_num
  · rw [if_neg h]
    have h' : ¬ (((k.val : ℝ) : EReal) = (((first (sco cb c2 (fun d => zed w1 b1 w2 b2 (fun i => p (ix2 i (j 0))) d))).val : ℝ) : EReal)) := by
      intro e; exact h (Fin.ext (by exact_mod_cast e))
    rw [decide_eq_false (by exact h')]
    show (((0#32 : BitVec 32).toInt : ℝ) : EReal) = 0
    norm_num

/-- The zero stored at the first point. -/
theorem pay3 (j) : k1_pay3 (F := Ideal) j = (0 : EReal) := by pointwise [k1_pay3]

/-- The loss with one block added, over any encoded pixels and least scores. -/
theorem pay4g (v : FVec Ideal S64x1536 .f32) (u : FVec Ideal S1x1536 .f32) (acc : Vec Ideal S1x1 .f32) (j) :
    k1_pay4 (F := Ideal) v u acc j
      = acc j + (∑ l : Fin 1536, (u (ix2 0 l) + ∑ d : Fin 64, v (ix2 d l) * v (ix2 d l))) * ((1 / 9437184 : ℝ) : EReal) := by
  rw [← named_val]
  pointwise [k1_pay4]
  rw [Fin.sum_univ_one]

/-- The loss with one block's part added. -/
theorem pay4 (acc : Vec Ideal S1x1 .f32) (j) :
    k1_pay4 (F := Ideal) (k1_pay5 (F := Ideal) w1 p b1 w2 b2) (k1_pay7 (F := Ideal) w1 p b1 w2 b2 cb c2) acc j
      = acc j + (∑ l : Fin 1536, part w1 b1 w2 b2 cb c2 (fun k => p (ix2 k l))) * ((1 / 9437184 : ℝ) : EReal) := by
  have e : ∀ l : Fin 1536, (k1_pay7 (F := Ideal) w1 p b1 w2 b2 cb c2 (ix2 0 l) + ∑ d : Fin 64, k1_pay5 (F := Ideal) w1 p b1 w2 b2 (ix2 d l) * k1_pay5 (F := Ideal) w1 p b1 w2 b2 (ix2 d l) : EReal)
      = part w1 b1 w2 b2 cb c2 (fun k => p (ix2 k l)) := fun l => by
    rw [pay7]
    simp only [pay5]
    rfl
  rw [pay4g]
  simp only [e]
end Pay

end Cert.KernelIdeal.Val

end
-- ==== Proof.Region1.lean ====
/- The second region's arrays: for each pixel the index of the nearest codebook row, that row, and the loss summed over all pixels. -/
module

public import proofs.«01_k».proof.Proof.Gen.KernelIdeal.Frame
public import proofs.«01_k».proof.Proof.Region1Pay
public import Idealize.ShloMosaic.Lib.Pipeline.ValueKit

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.Vq

/-- The windows' block coordinates at every point. -/
theorem idx1 : ∀ t : Fin cfg1.N, win1_0.index t = ![0, t.val] ∧ win1_1.index t = ![0, 0] ∧ win1_2.index t = ![0, 0]
    ∧ win1_3.index t = ![0, 0] ∧ win1_4.index t = ![0, 0] ∧ win1_5.index t = ![0, 0] ∧ win1_6.index t = ![0, 0]
    ∧ win1_7.index t = ![0, 0] ∧ win1_8.index t = ![t.val, 0, 0] ∧ win1_9.index t = ![t.val, 0] ∧ win1_10.index t = ![0, 0] :=
  (by decide +kernel : ∀ t : Fin grid1.N, _)

section Arr

variable (V : (c : Dev nD) → (b : Ref sig .tc) → Buf (Elt Ideal) ((c : Thread nD τ).loc b)) (c : Dev nD)

/-- The second region's weights are read whole at every point. -/
theorem whole1 (t : Fin cfg1.N) :
    iblk1 V c 1 t = V c main_v90 ∧ iblk1 V c 2 t = V c main_v101 ∧ iblk1 V c 3 t = V c main_v92 ∧ iblk1 V c 4 t = V c main_v102
    ∧ iblk1 V c 5 t = V c main_v95 ∧ iblk1 V c 6 t = V c main_v98 ∧ iblk1 V c 7 t = V c main_v100 := by
  refine ⟨?_, ?_, ?_, ?_, ?_, ?_, ?_⟩ <;> funext y <;> blk_ext [iblk1, idx1 t]

/-- The patch of pixel `n`. -/
def patch (P : Vec Ideal S48x294912 .bf16) (n : Fin 294912) (k : Fin 48) : EReal := P (ix2 k n)

/-- The block of patches at a point. -/
theorem patch1 (t : Fin cfg1.N) (l : Fin 1536) (n : Fin 294912) (hn : n.val = t.val * 1536 + l.val) (k : Fin 48) :
    (show Vec Ideal S48x1536 .bf16 from iblk1 V c 0 t) (ix2 k l) = patch (V c main_v87) n k := by
  unfold patch
  blk_ext [iblk1, idx1 t]

/-- The scores of a pixel. -/
def scores (p : Fin 48 → EReal) : Fin 1024 → EReal :=
  sco (V c main_v95) (V c main_v98) (zed (V c main_v90) (V c main_v101) (V c main_v92) (V c main_v102) p)

/-- The scores of pixel `n`. -/
abbrev scoresAt (n : Fin 294912) : Fin 1024 → EReal := scores V c (patch (V c main_v87) n)

/-- The pixel `l` of block `t`. -/
def pix (t : Fin cfg1.N) (l : Fin 1536) : Fin 294912 :=
  ⟨t.val * 1536 + l.val, by have := lt_of_lt_of_eq t.isLt N_1; have := l.isLt; omega⟩

/-- The scores the body computes at a point are the pixel's. -/
theorem scores1 (t : Fin cfg1.N) (l : Fin 1536) :
    (sco (iblk1 V c 5 t) (iblk1 V c 6 t) fun d => zed (iblk1 V c 1 t) (iblk1 V c 2 t) (iblk1 V c 3 t) (iblk1 V c 4 t)
      (fun k => (show Vec Ideal S48x1536 .bf16 from iblk1 V c 0 t) (ix2 k l)) d) = scoresAt V c (pix t l) := by
  obtain ⟨e1, e2, e3, e4, e5, e6, -⟩ := whole1 V c t
  unfold scoresAt scores
  rw [e1, e2, e3, e4, e5, e6]
  refine congrArg _ (funext fun d => congrArg (fun p => zed _ _ _ _ p d) (funext fun k => patch1 V c t l _ rfl k))

/-- The loss part the body computes at a point is the pixel's. -/
theorem part1 (t : Fin cfg1.N) (l : Fin 1536) :
    part (iblk1 V c 1 t) (iblk1 V c 2 t) (iblk1 V c 3 t) (iblk1 V c 4 t) (iblk1 V c 5 t) (iblk1 V c 6 t)
      (fun k => (show Vec Ideal S48x1536 .bf16 from iblk1 V c 0 t) (ix2 k l))
    = part (V c main_v90) (V c main_v101) (V c main_v92) (V c main_v102) (V c main_v95) (V c main_v98)
        (patch (V c main_v87) (pix t l)) := by
  obtain ⟨e1, e2, e3, e4, e5, e6, -⟩ := whole1 V c t
  rw [e1, e2, e3, e4, e5, e6]
  exact congrArg _ (funext fun k => patch1 V c t l _ rfl k)

/-- The array of indices. -/
theorem arr1_8 : (dat1 (F := Ideal) V c).arrAt 8 cfg1.N
    = (fun y => BitVec.ofNat 32 (first (scoresAt V c (pix (y 0) (y 2)))).val : S192x1x1536.Idx → BitVec 32) := by
  refine (dat1 V c).arrAt_eq_of_covers 8 _ (by decide +kernel) fun t _ y => ?_
  have e : ∀ n : Fin 294912, n.val = t.val * 1536 + (y 2).val → scoresAt V c n = scoresAt V c (pix t (y 2)) :=
    fun n hn => congrArg _ (Fin.ext hn)
  blk_simp
  rw [after1_8]
  by_cases h0 : t.val % 192 = 0
  · rw [outsAt1_A V c t h0]; frame_out
    rw [pay1, scores1 V c t (y 2)]
    refine congrArg (fun u : Fin 1024 → EReal => BitVec.ofNat 32 (first u).val) (e _ ?_).symm
    simp [pix, idx1 t]
  · rw [outsAt1_B V c t h0]; frame_out
    rw [pay1, scores1 V c t (y 2)]
    refine congrArg (fun u : Fin 1024 → EReal => BitVec.ofNat 32 (first u).val) (e _ ?_).symm
    simp [pix, idx1 t]

/-- The array of picked rows. -/
theorem arr1_9 : (dat1 (F := Ideal) V c).arrAt 9 cfg1.N
    = (fun y => (show Vec Ideal S64x1024 .bf16 from V c main_v100) (ix2 (y 1) (first (scoresAt V c (y 0)))) : S294912x64.Idx → EReal) := by
  refine (dat1 V c).arrAt_eq_of_covers 9 _ (by decide +kernel) fun t _ y => ?_
  have e : ∀ n : Fin 294912, n.val = t.val * 1536 + (y 0).val → scoresAt V c n = scoresAt V c (pix t (y 0)) :=
    fun n hn => congrArg _ (Fin.ext hn)
  obtain ⟨-, -, -, -, -, -, e7⟩ := whole1 V c t
  blk_simp
  rw [after1_9]
  by_cases h0 : t.val % 192 = 0
  · rw [outsAt1_A V c t h0]; frame_out
    rw [pay2, scores1 V c t (y 0), e7]
    refine congrArg₂ (fun a b => (show Vec Ideal S64x1024 .bf16 from V c main_v100) (ix2 a (first b))) (Fin.ext ?_) (e _ ?_).symm
      <;> blk_simp [idx1 t]
  · rw [outsAt1_B V c t h0]; frame_out
    rw [pay2, scores1 V c t (y 0), e7]
    refine congrArg₂ (fun a b => (show Vec Ideal S64x1024 .bf16 from V c main_v100) (ix2 a (first b))) (Fin.ext ?_) (e _ ?_).symm
      <;> blk_simp [idx1 t]

/-- The loss. -/
theorem arr1_10 (j) : (show Vec Ideal S1x1 .f32 from (dat1 (F := Ideal) V c).arrAt 10 cfg1.N) j
    = ∑ t : Fin cfg1.N, (∑ l : Fin 1536, part (V c main_v90) (V c main_v101) (V c main_v92) (V c main_v102) (V c main_v95) (V c main_v98)
        (patch (V c main_v87) (pix t l))) * ((1 / 9437184 : ℝ) : EReal) := by
  have key : ∀ X : Vec Ideal S1x1 .f32, (∀ j, X j = ∑ t : Fin cfg1.N, (∑ l : Fin 1536, part (V c main_v90) (V c main_v101) (V c main_v92) (V c main_v102) (V c main_v95) (V c main_v98)
        (patch (V c main_v87) (pix t l))) * ((1 / 9437184 : ℝ) : EReal)) → (dat1 (F := Ideal) V c).arrAt 10 cfg1.N = X := fun X hX => by
    refine (dat1 V c).arrAt_eq_of_covers 10 _ (by decide +kernel) fun t hf y => ?_
    blk_simp
    rw [after1_10, Pipeline.eq_sum_fin_of_reset_step_apply_of_flush (fun n h => (outsAt1 V c n h).2.2) 192 (fun _ => 0)
      (fun t _ => (∑ l : Fin 1536, part (V c main_v90) (V c main_v101) (V c main_v92) (V c main_v102) (V c main_v95) (V c main_v98)
        (patch (V c main_v87) (pix t l))) * ((1 / 9437184 : ℝ) : EReal))
      (fun t h j => by
        rw [outsAt1_A V c t h]; frame_out; rw [pay4, pay3]
        simp only [part1 V c t])
      (fun t h j => by
        rw [outsAt1_B V c t h]; frame_out; rw [pay4]
        simp only [part1 V c t])
      t ((flush1_10 t).mp hf) _, zero_add]
    refine Eq.trans ?_ (hX _).symm
    show (_ : EReal) = _
    refine Fintype.sum_equiv (finCongr (show 192 = cfg1.N from N_1.symm)) _ _ fun s => ?_
    have ht : 192 * (t.val / 192) + s.val = s.val := by have := lt_of_lt_of_eq t.isLt N_1; omega
    refine congrArg (fun f : Fin 1536 → Fin 294912 => (∑ l : Fin 1536, part (V c main_v90) (V c main_v101) (V c main_v92) (V c main_v102)
      (V c main_v95) (V c main_v98) (patch (V c main_v87) (f l))) * ((1 / 9437184 : ℝ) : EReal)) (funext fun l => Fin.ext ?_)
    simp [pix, ht]
  rw [key _ (fun _ => rfl)]

end Arr
end Cert.KernelIdeal.Val

end
-- ==== Proof.Spec.lean ====
/- The network in plain formulas over its ten arguments: the padded image, the encoder, the distances to the codebook rows and the
   row picked, the decoder over the padded picks, and the loss. -/
module

public import Idealize.ShloMosaic.PureOps.Ideal
public import proofs.«01_k».proof.Proof.Pick

@[expose] public section

noncomputable section

namespace Cert.Vq

open Idealize.ShloMosaic

/-- The ten arguments: the image, the encoder's weights and biases, the codebook, the decoder's weights and biases. -/
structure Net where
  x : Fin 8 → Fin 3 → Fin 384 → Fin 384 → EReal
  w1 : Fin 192 → Fin 3 → Fin 4 → Fin 4 → EReal
  b1 : Fin 192 → EReal
  w2 : Fin 64 → Fin 192 → EReal
  b2 : Fin 64 → EReal
  cb : Fin 1024 → Fin 64 → EReal
  u1 : Fin 192 → Fin 64 → Fin 4 → Fin 4 → EReal
  c1 : Fin 192 → EReal
  u2 : Fin 3 → Fin 192 → EReal
  c2 : Fin 3 → EReal

namespace Net

variable (N : Net)

/-- The image with one row or column of zeros on each side. -/
def pad (b : Fin 8) (c : Fin 3) (i j : ℕ) : EReal :=
  if h : (1 ≤ i ∧ i - 1 < 384) ∧ 1 ≤ j ∧ j - 1 < 384 then N.x b c ⟨i - 1, h.1.2⟩ ⟨j - 1, h.2.2⟩ else 0

/-- The strided convolution. -/
def conv (b : Fin 8) (h w : Fin 192) (o : Fin 192) : EReal :=
  ∑ ky : Fin 4, ∑ kx : Fin 4, ∑ c : Fin 3, N.pad b c (2 * h.val + ky.val) (2 * w.val + kx.val) * N.w1 o c ky kx

/-- The hidden channels. -/
def hid (b : Fin 8) (h w : Fin 192) (o : Fin 192) : EReal := max (N.conv b h w o + N.b1 o) 0

/-- The encoded pixel. -/
def z (b : Fin 8) (h w : Fin 192) (d : Fin 64) : EReal := ∑ o : Fin 192, N.w2 d o * N.hid b h w o + N.b2 d

/-- The squared distance of the encoded pixel to codebook row `k`. -/
def dist (b : Fin 8) (h w : Fin 192) (k : Fin 1024) : EReal :=
  (∑ d : Fin 64, N.z b h w d * N.z b h w d - ((2 : ℝ) : EReal) * ∑ d : Fin 64, N.z b h w d * N.cb k d) + ∑ d : Fin 64, N.cb k d * N.cb k d

/-- The distance without the term that no row changes. -/
def score (b : Fin 8) (h w : Fin 192) (k : Fin 1024) : EReal :=
  ∑ d : Fin 64, ((-2 : ℝ) : EReal) * N.cb k d * N.z b h w d + ∑ d : Fin 64, N.cb k d * N.cb k d

/-- The nearest row. -/
def pick (b : Fin 8) (h w : Fin 192) : Fin 1024 := first (N.dist b h w)

/-- The rows `k` picked, with one row or column of zeros on each side. -/
def quant (k : Fin 8 → Fin 192 → Fin 192 → Fin 1024) (b : Fin 8) (i j : ℕ) (d : Fin 64) : EReal :=
  if h : (1 ≤ i ∧ i - 1 < 192) ∧ 1 ≤ j ∧ j - 1 < 192 then N.cb (k b ⟨i - 1, h.1.2⟩ ⟨j - 1, h.2.2⟩) d else 0

/-- The transposed convolution at the pixel (y, x): four taps of 64 channels. -/
def up (k : Fin 8 → Fin 192 → Fin 192 → Fin 1024) (b : Fin 8) (y x : Fin 384) (o : Fin 192) : EReal :=
  ∑ l : Fin 256, N.quant k b (y.val / 2 + y.val % 2 + l.val / 128) (x.val / 2 + x.val % 2 + l.val / 64 % 2) ⟨l.val % 64, by omega⟩
    * N.u1 o ⟨l.val % 64, by omega⟩ ⟨y.val % 2 + 2 * (l.val / 128), by omega⟩ ⟨x.val % 2 + 2 * (l.val / 64 % 2), by omega⟩

/-- The reconstruction. -/
def recon (k : Fin 8 → Fin 192 → Fin 192 → Fin 1024) (b : Fin 8) (c : Fin 3) (y x : Fin 384) : EReal :=
  Ideal.logistic (∑ o : Fin 192, N.u2 c o * max (N.up k b y x o + N.c1 o) 0 + N.c2 c)

/-- The squared error over all pixels. -/
def err : EReal := ∑ b : Fin 8, ∑ h : Fin 192, ∑ w : Fin 192, ∑ d : Fin 64,
  (N.cb (N.pick b h w) d - N.z b h w d) * (N.cb (N.pick b h w) d - N.z b h w d)

end Net

end Cert.Vq

end
-- ==== Proof.HostIn.lean ====
/- What the kernel's first two regions read and leave, over the arguments: the padded image split by parities, its patches, the weights as
   matrices, the encoded pixels and their scores. -/
module

public import proofs.«01_k».proof.Proof.Gen.KernelIdeal.Frame
public import proofs.«01_k».proof.Proof.Region0
public import proofs.«01_k».proof.Proof.Region1
public import proofs.«01_k».proof.Proof.Spec
public import Idealize.ShloMosaic.Lib.Pipeline.ValueKit
public import Idealize.ShloMosaic.Lib.StableHlo.ReadAt
public import Idealize.ShloMosaic.Lib.StableHlo.RunRead

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.Vq

variable (m : (ℓ : Loc nD τ sig) → Buf (Elt Ideal) ℓ) (ρ : Dev nD → PrngReg) (c : Dev nD)

/-- The network's arguments as a memory holds them. -/
def net : Net where
  x b ch i j := (show FVec Ideal S8x3x384x384 .f32 from m ((c : Thread nD τ).loc main_arg0)) (ix4 b ch i j)
  w1 o ch i j := (show FVec Ideal S192x3x4x4 .f32 from m ((c : Thread nD τ).loc main_arg1)) (ix4 o ch i j)
  b1 o := (show FVec Ideal S192 .f32 from m ((c : Thread nD τ).loc main_arg2)) (ix1 o)
  w2 d o := (show FVec Ideal S64x192x1x1 .f32 from m ((c : Thread nD τ).loc main_arg3)) (ix4 d o 0 0)
  b2 d := (show FVec Ideal S64 .f32 from m ((c : Thread nD τ).loc main_arg4)) (ix1 d)
  cb k d := (show FVec Ideal S1024x64 .f32 from m ((c : Thread nD τ).loc main_arg5)) (ix2 k d)
  u1 o d i j := (show FVec Ideal S192x64x4x4 .f32 from m ((c : Thread nD τ).loc main_arg6)) (ix4 o d i j)
  c1 o := (show FVec Ideal S192 .f32 from m ((c : Thread nD τ).loc main_arg7)) (ix1 o)
  u2 k o := (show FVec Ideal S3x192x1x1 .f32 from m ((c : Thread nD τ).loc main_arg8)) (ix4 k o 0 0)
  c2 k := (show FVec Ideal S3 .f32 from m ((c : Thread nD τ).loc main_arg9)) (ix1 k)

/-- A comparison turned to a float is one where the words are equal and zero elsewhere. -/
theorem flag (a b : BitVec 32) : (FloatOps.uitofp (F := Ideal) FTy.bf16 (IntOp.cmpi CmpIPredicate.eq a b) : EReal) = if a = b then 1 else 0 := by
  by_cases h : a = b
  · subst h; simp [IntOp.cmpi, FloatOps.uitofp]
  · simp [IntOp.cmpi, FloatOps.uitofp, h]

/-- Words of small numbers are equal when the numbers are. -/
theorem word_eq (i j : ℕ) (hi : i < 2 ^ 32) (hj : j < 2 ^ 32) : BitVec.ofNat 32 i = BitVec.ofNat 32 j ↔ i = j := by
  constructor
  · intro h
    have := congrArg BitVec.toNat h
    rwa [BitVec.toNat_ofNat, BitVec.toNat_ofNat, Nat.mod_eq_of_lt hi, Nat.mod_eq_of_lt hj] at this
  · rintro rfl; rfl

/-- The padded coordinate a column (or a row, at another base `s` and end `e`) of the split image holds. -/
def coordBits (s e : BitVec 32) (q : ℕ) : BitVec 32 :=
  Scalar.select (IntOp.cmpi CmpIPredicate.slt (BitVec.ofNat 32 q) 193#32) (IntOp.muli (2#32) (BitVec.ofNat 32 q))
    (Scalar.select (IntOp.andi (IntOp.cmpi CmpIPredicate.sge (BitVec.ofNat 32 q) s) (IntOp.cmpi CmpIPredicate.slt (BitVec.ofNat 32 q) e))
      (IntOp.addi (IntOp.muli (2#32) (IntOp.subi (BitVec.ofNat 32 q) s)) 1#32) 4294967295#32)

/-- The columns read at tap `k`. -/
theorem col_at : ∀ (w : Fin 192) (k : Fin 4), coordBits 256#32 449#32 (k.val % 2 * 256 + k.val / 2 + w.val) = BitVec.ofNat 32 (2 * w.val + k.val) := by
  decide +kernel

/-- The rows read at tap `k`. -/
theorem row_at : ∀ (w : Fin 192) (k : Fin 4), coordBits 200#32 393#32 (k.val % 2 * 200 + k.val / 2 + w.val) = BitVec.ofNat 32 (2 * w.val + k.val) := by
  decide +kernel

/-- The matrix that picks columns. -/
theorem v26_at (j : Fin 386) (q : Fin 512) : (show FVec Ideal S386x512 .bf16 from W9 m ρ c (Proc.devRef .tc main_v26)) (ix2 j q)
    = if BitVec.ofNat 32 j.val = coordBits 256#32 449#32 q.val then 1 else 0 := by
  rw [W9_of m ρ c main_v26 (by decide +kernel), W8_of m ρ c main_v26 (by decide +kernel), W7_of m ρ c main_v26 (by decide +kernel)]
  unfold W6 W5 W4 W3 W2 W1
  after_reads_at
  exact flag _ _

/-- The matrix that picks rows. -/
theorem v51_at (j : Fin 386) (q : Fin 400) : (show FVec Ideal S400x386 .bf16 from W9 m ρ c (Proc.devRef .tc main_v51)) (ix2 q j)
    = if coordBits 200#32 393#32 q.val = BitVec.ofNat 32 j.val then 1 else 0 := by
  unfold W9 W8 W7 W6
  after_reads_at
  exact flag _ _

/-- The padded image. -/
theorem v1_at (b : Fin 8) (ch : Fin 3) (i j : Fin 386) :
    (show FVec Ideal S8x3x386x386 .bf16 from W9 m ρ c (Proc.devRef .tc main_v1)) (ix4 b ch i j) = (net m c).pad b ch i.val j.val := by
  unfold W9 W8 W7 W6 W5 W4 W3 W2 W1
  after_reads_at
  unfold Net.pad
  rw [show (FloatOps.sitofp (F := Ideal) FTy.bf16 0#32 : EReal) = 0 from by simp [FloatOps.sitofp]]
  rfl

/-- The split image at a pixel's tap is the padded image at the tap's place. -/
theorem v52_at (b : Fin 8) (ch : Fin 3) (h w : Fin 192) (ky kx : Fin 4) (r : Fin 400) (q : Fin 512)
    (hr : r.val = ky.val % 2 * 200 + ky.val / 2 + h.val) (hq : q.val = kx.val % 2 * 256 + kx.val / 2 + w.val) :
    (show FVec Ideal S8x3x400x512 .bf16 from W10 m ρ c (Proc.devRef .tc main_v52)) (ix4 b ch r q)
      = (net m c).pad b ch (2 * h.val + ky.val) (2 * w.val + kx.val) := by
  rw [show W10 m ρ c (Proc.devRef .tc main_v52) = _ from W10_arr m ρ c 3, arr0]
  show ∑ i : Fin 386, (show FVec Ideal S400x386 .bf16 from W9 m ρ c (Proc.devRef .tc main_v51)) (ix2 r i)
      * ∑ j : Fin 386, (show FVec Ideal S8x3x386x386 .bf16 from W9 m ρ c (Proc.devRef .tc main_v1)) (ix4 b ch i j)
          * (show FVec Ideal S386x512 .bf16 from W9 m ρ c (Proc.devRef .tc main_v26)) (ix2 j q) = _
  have hy : 2 * h.val + ky.val < 386 := by omega
  have hx : 2 * w.val + kx.val < 386 := by omega
  rw [sum_pick' _ ⟨2 * h.val + ky.val, hy⟩ _ fun i => ?_, sum_pick _ ⟨2 * w.val + kx.val, hx⟩ _ fun j => ?_, v1_at]
  · rw [v26_at, hq, col_at]
    exact if_congr ((word_eq _ _ (by omega) (by omega)).trans (Fin.ext_iff (a := j) (b := ⟨2 * w.val + kx.val, hx⟩)).symm) rfl rfl
  · rw [v51_at, hr, row_at]
    exact if_congr ((word_eq _ _ (by omega) (by omega)).trans (eq_comm.trans (Fin.ext_iff (a := i) (b := ⟨2 * h.val + ky.val, hy⟩)).symm)) rfl rfl

/-- The patches' two leading axes and three trailing ones merged. -/
theorem merge_at (f : FVec Ideal S16x8x3x192x192 .bf16) (hp hz) (k : Fin 48) (n : Fin 294912) :
    shapeCast S48x294912 (transpose S16x3x8x192x192 [0, 2, 1, 3, 4] f hp) hz (ix2 k n)
      = f (ix5 ⟨k.val / 3, by omega⟩ ⟨n.val / 36864, by omega⟩ ⟨k.val % 3, by omega⟩ ⟨n.val / 192 % 192, by omega⟩ ⟨n.val % 192, by omega⟩) := by
  pointwise

/-- The patches, over the split image. -/
theorem v87_at (k : Fin 48) (n : Fin 294912) : (show FVec Ideal S48x294912 .bf16 from W11 m ρ c (Proc.devRef .tc main_v87)) (ix2 k n)
    = (show FVec Ideal S8x3x400x512 .bf16 from W10 m ρ c (Proc.devRef .tc main_v52)) (ix4 ⟨n.val / 36864, by omega⟩ ⟨k.val % 3, by omega⟩
        ⟨k.val / 12 % 2 * 200 + k.val / 24 + n.val / 192 % 192, by omega⟩ ⟨k.val / 3 % 2 * 256 + k.val / 6 % 2 + n.val % 192, by omega⟩) := by
  unfold W11
  after_reads_simp
  refine (merge_at _ _ _ k n).trans ?_
  refine concatenate_unit_eq _ _ _ _ _ rfl ?_
  iterate 16 (refine concatAt_cons _ _ _ _ ?_ ?_; rotate_left)
  · exact concatAt_nil _ _ _ _
  all_goals
    intro hk _ i h0 hb
    have i1 : (i 1).val = n.val / 36864 := hb 1 (by decide)
    have i2 : (i 2).val = k.val % 3 := hb 2 (by decide)
    have i3 : (i 3).val = n.val / 192 % 192 := hb 3 (by decide)
    have i4 : (i 4).val = n.val % 192 := hb 4 (by decide)
    change k.val / 3 = _ at hk
    dsimp only [Matrix.cons_val]
    after_reads_at
    refine congrArg _ (funext fun a => Fin.ext ?_)
    fin_cases a
    · exact i1
    · exact i2
    · simp; omega
    · simp; omega

/-- The pixel (b, h, w)'s number. -/
def num (b : Fin 8) (h w : Fin 192) : Fin 294912 := ⟨b.val * 36864 + h.val * 192 + w.val, by omega⟩

/-- A pixel's patch. -/
theorem patch_at (b : Fin 8) (h w : Fin 192) (k : Fin 48) : patch (V11 m ρ c main_v87) (num b h w) k
    = (net m c).pad b ⟨k.val % 3, by omega⟩ (2 * h.val + k.val / 12) (2 * w.val + k.val / 3 % 4) := by
  have hb := b.isLt
  have hh := h.isLt
  have hw := w.isLt
  have e1 : (num b h w).val / 36864 = b.val := by simp only [num]; omega
  have e2 : (num b h w).val / 192 % 192 = h.val := by simp only [num]; omega
  have e3 : (num b h w).val % 192 = w.val := by simp only [num]; omega
  refine (v87_at m ρ c k (num b h w)).trans ?_
  have eb : (⟨(num b h w).val / 36864, by omega⟩ : Fin 8) = b := Fin.ext e1
  rw [eb]
  exact v52_at m ρ c b _ h w ⟨k.val / 12, by omega⟩ ⟨k.val / 3 % 4, by omega⟩ _ _ (by dsimp only; omega) (by dsimp only; omega)

/-- An argument is as launched when the first region has run. -/
theorem arg10 (a : Ref sig .tc) (h : a ∈ argRefs) : W10 m ρ c (Proc.devRef .tc a) = m ((c : Thread nD τ).loc a) := W10_args m ρ c a h

/-- The first weights as a matrix. -/
theorem v90_at (o : Fin 192) (k : Fin 48) : (show FVec Ideal S192x48 .bf16 from W11 m ρ c (Proc.devRef .tc main_v90)) (ix2 o k)
    = (net m c).w1 o ⟨k.val % 3, by omega⟩ ⟨k.val / 12, by omega⟩ ⟨k.val / 3 % 4, by omega⟩ := by
  unfold W11; after_reads_at; rw [arg10 m ρ c main_arg1 (by decide +kernel)]; rfl

/-- The second weights as a matrix. -/
theorem v92_at (o : Fin 64) (k : Fin 192) : (show FVec Ideal S64x192 .bf16 from W11 m ρ c (Proc.devRef .tc main_v92)) (ix2 o k)
    = (net m c).w2 o k := by
  unfold W11; after_reads_at; rw [arg10 m ρ c main_arg3 (by decide +kernel)]; rfl

/-- The pattern of minus two is minus two. -/
theorem minus_two : Ideal.ofBits FTy.f32 0xC0000000#32 = ((-2 : ℝ) : EReal) := by
  simp [Ideal.ofBits, Ideal.ieee, -EReal.coe_mul]; norm_num

/-- The codebook scaled by minus two. -/
theorem v95_at (k : Fin 1024) (d : Fin 64) : (show FVec Ideal S1024x64 .bf16 from W11 m ρ c (Proc.devRef .tc main_v95)) (ix2 k d)
    = ((-2 : ℝ) : EReal) * (net m c).cb k d := by
  unfold W11; after_reads_at; rw [arg10 m ρ c main_arg5 (by decide +kernel), minus_two]; rfl

/-- The codebook rows' squared lengths. -/
theorem v98_at (k : Fin 1024) : (show FVec Ideal S1024x1 .f32 from W11 m ρ c (Proc.devRef .tc main_v98)) (ix2 k 0)
    = ∑ d : Fin 64, (net m c).cb k d * (net m c).cb k d := by
  unfold W11; after_reads_at; rw [arg10 m ρ c main_arg5 (by decide +kernel)]; rfl

/-- The codebook transposed. -/
theorem v100_at (k : Fin 1024) (d : Fin 64) : (show FVec Ideal S64x1024 .bf16 from W11 m ρ c (Proc.devRef .tc main_v100)) (ix2 d k)
    = (net m c).cb k d := by
  unfold W11; after_reads_at; rw [arg10 m ρ c main_arg5 (by decide +kernel)]; rfl

/-- The first biases as a column. -/
theorem v101_at (o : Fin 192) : (show FVec Ideal S192x1 .f32 from W11 m ρ c (Proc.devRef .tc main_v101)) (ix2 o 0) = (net m c).b1 o := by
  unfold W11; after_reads_at; rw [arg10 m ρ c main_arg2 (by decide +kernel)]; rfl

/-- The second biases as a column. -/
theorem v102_at (o : Fin 64) : (show FVec Ideal S64x1 .f32 from W11 m ρ c (Proc.devRef .tc main_v102)) (ix2 o 0) = (net m c).b2 o := by
  unfold W11; after_reads_at; rw [arg10 m ρ c main_arg4 (by decide +kernel)]; rfl

/-- A sum over 48 patch entries is the sum over the taps and the channels. -/
theorem sum48 (f : Fin 48 → EReal) :
    ∑ k : Fin 48, f k = ∑ ky : Fin 4, ∑ kx : Fin 4, ∑ ch : Fin 3, f ⟨(ky.val * 4 + kx.val) * 3 + ch.val, by omega⟩ := by
  simp only [Fin.sum_univ_succ, Finset.univ_eq_empty, Finset.sum_empty]
  simp [Fin.succ]
  abel

/-- The encoder at a pixel. -/
theorem zed_at (b : Fin 8) (h w : Fin 192) (d : Fin 64) :
    zed (V11 m ρ c main_v90) (V11 m ρ c main_v101) (V11 m ρ c main_v92) (V11 m ρ c main_v102) (patch (V11 m ρ c main_v87) (num b h w)) d
      = (net m c).z b h w d := by
  unfold zed Net.z
  refine congrArg₂ (· + ·) (Finset.sum_congr rfl fun o _ => congrArg₂ (· * ·) (v92_at m ρ c d o) ?_) (v102_at m ρ c d)
  unfold hid Net.hid Net.conv
  refine congrArg (max · 0) (congrArg₂ (· + ·) ?_ (v101_at m ρ c o))
  rw [sum48]
  refine Finset.sum_congr rfl fun ky _ => Finset.sum_congr rfl fun kx _ => Finset.sum_congr rfl fun ch _ => ?_
  have hc := ch.isLt
  have hx := kx.isLt
  have e1 : ((ky.val * 4 + kx.val) * 3 + ch.val) % 3 = ch.val := by omega
  have e2 : ((ky.val * 4 + kx.val) * 3 + ch.val) / 12 = ky.val := by omega
  have e3 : ((ky.val * 4 + kx.val) * 3 + ch.val) / 3 % 4 = kx.val := by omega
  refine (congrArg₂ (· * ·) (v90_at m ρ c o _) (patch_at m ρ c b h w _)).trans ?_
  simp only [e1, e2, e3]
  exact mul_comm _ _

/-- The scores at a pixel. -/
theorem scores_at (b : Fin 8) (h w : Fin 192) : scoresAt (V11 m ρ) c (num b h w) = (net m c).score b h w := by
  funext k
  unfold scoresAt scores sco Net.score
  refine congrArg₂ (· + ·) (Finset.sum_congr rfl fun d _ => congrArg₂ (· * ·) (v95_at m ρ c k d) (zed_at m ρ c b h w d)) (v98_at m ρ c k)

/-- A pixel's part of the loss. -/
theorem part_at (b : Fin 8) (h w : Fin 192) : part (V11 m ρ c main_v90) (V11 m ρ c main_v101) (V11 m ρ c main_v92) (V11 m ρ c main_v102)
      (V11 m ρ c main_v95) (V11 m ρ c main_v98) (patch (V11 m ρ c main_v87) (num b h w))
    = (net m c).score b h w (first ((net m c).score b h w)) + ∑ d : Fin 64, (net m c).z b h w d * (net m c).z b h w d := by
  have e : sco (V11 m ρ c main_v95) (V11 m ρ c main_v98) (zed (V11 m ρ c main_v90) (V11 m ρ c main_v101) (V11 m ρ c main_v92)
      (V11 m ρ c main_v102) (patch (V11 m ρ c main_v87) (num b h w))) = (net m c).score b h w := scores_at m ρ c b h w
  unfold part
  rw [e]
  exact congrArg _ (Finset.sum_congr rfl fun d _ => congrArg₂ (· * ·) (zed_at m ρ c b h w d) (zed_at m ρ c b h w d))

end Cert.KernelIdeal.Val

end
-- ==== Proof.Region2.lean ====
/- The third region's array: for each of the four output parities the decoder's two layers over the four taps that meet the pixel. -/
module

public import proofs.«01_k».proof.Proof.Gen.KernelIdeal.Frame
public import Idealize.ShloMosaic.Lib.Pipeline.ValueKit

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen

/-- The decoder's two layers over the lanes `q` of a pixel: hidden channels, then the output channel `ch`. -/
def head (q : Fin 256 → EReal) (w : Fin 256 → Fin 192 → EReal) (b1 : Vec Ideal S1x192 .f32) (w2 : Vec Ideal S3x192 .bf16)
    (b2 : Vec Ideal S3x1 .f32) (ch : Fin 3) : EReal :=
  Ideal.logistic (∑ o : Fin 192, w2 (ix2 ch o) * max (∑ x : Fin 256, q x * w x o + b1 (ix2 0 o)) 0 + b2 (ix2 ch 0))

/-- Lane `x` of the pixel (r, s) of image `b` at parity `p`: tap `x / 64`, channel `x % 64`. -/
def lane (Q : Vec Ideal S8x194x194x64 .bf16) (p : Fin 4) (b : Fin 8) (r s : Fin 192) (x : Fin 256) : EReal :=
  Q (ix4 b ⟨r.val + p.val / 2 + x.val / 128, by omega⟩ ⟨s.val + p.val % 2 + x.val / 64 % 2, by omega⟩ ⟨x.val % 64, by omega⟩)

/-- One store of the body, over the four tap blocks. -/
def tileF (x0 x1 x2 x3 : Vec Ideal S1x16x192x64 .bf16) (w : Vec Ideal S1x256x192 .bf16) (b1 : Vec Ideal S1x192 .f32)
    (w2 : Vec Ideal S3x192 .bf16) (b2 : Vec Ideal S3x1 .f32) : FVec Ideal S1x1x1x3x3072 .f32 :=
  k2_pay3 (F := Ideal) (k2_pay2 (F := Ideal) x0 x1 x2 x3 w b1) (FloatOps.ofBits FTy.f32 0#32) w2 b2

/-- The second store is the same computation. -/
theorem tile1 (x0 x1 x2 x3 w b1 w2 b2) :
    k2_pay7 (F := Ideal) (k2_pay4 x0) (k2_pay5 x1) (k2_pay6 x2) x3 w b1 w2 b2 = tileF x0 x1 x2 x3 w b1 w2 b2 := rfl

/-- The third store is the same computation. -/
theorem tile2 (x0 x1 x2 x3 w b1 w2 b2) :
    k2_pay10 (F := Ideal) (k2_pay9 (k2_pay8 x0) x1 x2 x3 w b1 w2 b2) = tileF x0 x1 x2 x3 w b1 w2 b2 := rfl

/-- The fourth store is the same computation. -/
theorem tile3 (x0 x1 x2 x3 w b1 w2 b2) :
    k2_pay1 (F := Ideal) (k2_pay11 x0 x1 x2 x3 w) (k2_pay12 b1) w2 b2 = tileF x0 x1 x2 x3 w b1 w2 b2 := rfl

/-- A store at an index, the tap blocks' reads given as the lanes. -/
theorem tile_at (x0 x1 x2 x3 : Vec Ideal S1x16x192x64 .bf16) (w : Vec Ideal S1x256x192 .bf16) (b1 : Vec Ideal S1x192 .f32)
    (w2 : Vec Ideal S3x192 .bf16) (b2 : Vec Ideal S3x1 .f32) (j : S1x1x1x3x3072.Idx) (lr : Fin 16) (s : Fin 192)
    (hj : (j 4).val = lr.val * 192 + s.val) (q : Fin 256 → EReal)
    (h0 : ∀ d : Fin 64, x0 (ix4 0 lr s d) = q ⟨d.val, by omega⟩) (h1 : ∀ d : Fin 64, x1 (ix4 0 lr s d) = q ⟨64 + d.val, by omega⟩)
    (h2 : ∀ d : Fin 64, x2 (ix4 0 lr s d) = q ⟨128 + d.val, by omega⟩) (h3 : ∀ d : Fin 64, x3 (ix4 0 lr s d) = q ⟨192 + d.val, by omega⟩) :
    tileF x0 x1 x2 x3 w b1 w2 b2 j = head q (fun x o => w (ix3 0 x o)) b1 w2 b2 (j 3) := by
  have e0 : ∀ h, (⟨(j 4).val / 192, h⟩ : Fin 16) = lr := fun h => Fin.ext (by dsimp only; omega)
  have e1 : ∀ h, (⟨(j 4).val % 192, h⟩ : Fin 192) = s := fun h => Fin.ext (by dsimp only; omega)
  unfold tileF head
  pointwise [k2_pay3, k2_pay2]
  refine congrArg (fun v => Ideal.logistic (v + _)) (Finset.sum_congr rfl fun o _ => ?_)
  refine congrArg (fun v => w2 (ix2 (j 3) o) * max (v + _) 0) (Finset.sum_congr rfl fun x _ => ?_)
  refine congrArg (fun v => v * w (ix3 0 x o)) ?_
  simp only [e0, e1, h0, h1, h2, h3]
  split_ifs <;> exact congrArg q (Fin.ext (by first | rfl | (dsimp only; omega)))

/-- The windows' block coordinates and the loads' offsets at every point. -/
theorem idx2 : ∀ t : Fin cfg2.N, win2_0.index t = ![(grid2.coords t 0).val, 0, 0, 0] ∧ win2_1.index t = ![0, 0, 0]
    ∧ win2_2.index t = ![0, 0] ∧ win2_3.index t = ![0, 0] ∧ win2_4.index t = ![0, 0]
    ∧ win2_5.index t = ![0, (grid2.coords t 0).val, (grid2.coords t 1).val, 0, 0] :=
  (by decide +kernel : ∀ t : Fin grid2.N, _)

/-- The loads' offsets at every point. -/
theorem off2 : ∀ t : Fin cfg2.N,
    (∀ a : Fin 2, ∀ ty : Fin 2, k2_off1 (grid2.coords t) (BitVec.ofNat 32 a) (BitVec.ofNat 32 ty) = ![0, (grid2.coords t 1).val * 16 + a.val + ty.val, 0, 0])
    ∧ (∀ a : Fin 2, ∀ ty : Fin 2, k2_off2 (grid2.coords t) (BitVec.ofNat 32 a) (BitVec.ofNat 32 ty) = ![0, (grid2.coords t 1).val * 16 + a.val + ty.val, 1, 0])
    ∧ (∀ a : Fin 2, ∀ ty : Fin 2, k2_off3 (grid2.coords t) (BitVec.ofNat 32 a) (BitVec.ofNat 32 ty) = ![0, (grid2.coords t 1).val * 16 + a.val + ty.val, 2, 0]) :=
  (by decide +kernel : ∀ t : Fin grid2.N, _)

section Arr

variable (V : (c : Dev nD) → (b : Ref sig .tc) → Buf (Elt Ideal) ((c : Thread nD τ).loc b)) (c : Dev nD)

/-- The decoded value at parity `p` of image `b`, row `r`, column `s`, channel `ch`. -/
def decK (p : Fin 4) (b : Fin 8) (r s : Fin 192) (ch : Fin 3) : EReal :=
  head (lane (V c main_v107) p b r s) (fun x o => (show Vec Ideal S4x256x192 .bf16 from V c main_v122) (ix3 p x o))
    (V c main_v125) (V c main_v124) (V c main_v126) ch

/-- A tap's load at an index. -/
theorem tap (t : Fin cfg2.N) (off : Fin 4 → ℕ) (hin) (rr kk : ℕ) (ho : off = ![0, rr, kk, 0]) (lr : Fin 16) (s : Fin 192) (d : Fin 64)
    (n : S8x194x194x64.Idx) (h0 : (n 0).val = (grid2.coords t 0).val) (h1 : (n 1).val = rr + lr.val) (h2 : (n 2).val = kk + s.val)
    (h3 : (n 3).val = d.val) :
    View.ld (iblk2 V c 0 t) (Rect.unit (s := S1x194x194x64) off ![1, 16, 192, 64] hin) (ix4 0 lr s d)
      = (show Vec Ideal S8x194x194x64 .bf16 from V c main_v107) n := by
  subst ho
  have b1 : (n 1).val < 194 := (n 1).isLt
  have b2 : (n 2).val < 194 := (n 2).isLt
  refine (View.ld_unit_apply_of (iblk2 V c 0 t) _ _ hin (ix4 0 lr s d) (ix4 0 ⟨rr + lr.val, by omega⟩ ⟨kk + s.val, by omega⟩ d)
    (by intro a; fin_cases a <;> simp)).trans ?_
  blk_ext [iblk2, idx2 t]

/-- The weights' load at an index. -/
theorem wts (t : Fin cfg2.N) (p : Fin 4) (hin) (q : Fin 256) (o : Fin 192) :
    View.ld (iblk2 V c 1 t) (Rect.unit (s := S4x256x192) ![p.val, 0, 0] ![1, 256, 192] hin) (ix3 0 q o)
      = (show Vec Ideal S4x256x192 .bf16 from V c main_v122) (ix3 p q o) := by
  refine (View.ld_unit_apply_of (iblk2 V c 1 t) _ _ hin (ix3 0 q o) (ix3 p q o) (by intro a; fin_cases a <;> simp)).trans ?_
  blk_ext [iblk2, idx2 t]

/-- The third region's biases and last weights are read whole at every point. -/
theorem whole2 (t : Fin cfg2.N) :
    iblk2 V c 2 t = V c main_v125 ∧ iblk2 V c 3 t = V c main_v124 ∧ iblk2 V c 4 t = V c main_v126 := by
  refine ⟨?_, ?_, ?_⟩ <;> funext y <;> blk_ext [iblk2, idx2 t]

/-- One store of the body at an index is the decoded value. -/
theorem stored (t : Fin cfg2.N) (p : Fin 4) (o0 o1 o2 o3 : Fin 4 → ℕ) (i0 i1 i2 i3 iw)
    (e0 : o0 = ![0, (grid2.coords t 1).val * 16 + p.val / 2 + 0, p.val % 2 + 0, 0])
    (e1 : o1 = ![0, (grid2.coords t 1).val * 16 + p.val / 2 + 0, p.val % 2 + 1, 0])
    (e2 : o2 = ![0, (grid2.coords t 1).val * 16 + p.val / 2 + 1, p.val % 2 + 0, 0])
    (e3 : o3 = ![0, (grid2.coords t 1).val * 16 + p.val / 2 + 1, p.val % 2 + 1, 0])
    (x : S1x1x1x3x3072.Idx) (p' : Fin 4) (b : Fin 8) (r s : Fin 192) (ch : Fin 3) (hp : p'.val = p.val) (hb : b.val = (grid2.coords t 0).val)
    (hr : r.val = (grid2.coords t 1).val * 16 + (x 4).val / 192) (hs : s.val = (x 4).val % 192) (hch : ch.val = (x 3).val) :
    tileF (View.ld (iblk2 V c 0 t) (Rect.unit (s := S1x194x194x64) o0 ![1, 16, 192, 64] i0))
        (View.ld (iblk2 V c 0 t) (Rect.unit (s := S1x194x194x64) o1 ![1, 16, 192, 64] i1))
        (View.ld (iblk2 V c 0 t) (Rect.unit (s := S1x194x194x64) o2 ![1, 16, 192, 64] i2))
        (View.ld (iblk2 V c 0 t) (Rect.unit (s := S1x194x194x64) o3 ![1, 16, 192, 64] i3))
        (View.ld (iblk2 V c 1 t) (Rect.unit (s := S4x256x192) ![p.val, 0, 0] ![1, 256, 192] iw))
        (iblk2 V c 2 t) (iblk2 V c 3 t) (iblk2 V c 4 t) x
      = decK V c p' b r s ch := by
  obtain rfl : p' = p := Fin.ext hp
  obtain ⟨w2, w3, w4⟩ := whole2 V c t
  have hx : (x 4).val < 3072 := (x 4).isLt
  have hch' : x 3 = ch := Fin.ext hch.symm
  rw [tile_at _ _ _ _ _ _ _ _ x ⟨(x 4).val / 192, by omega⟩ s (by rw [hs]; dsimp only; omega) (lane (V c main_v107) p' b r s)
    (fun d => tap V c t _ _ _ _ e0 _ _ _ _ hb (by show r.val + p'.val / 2 + d.val / 128
        = (grid2.coords t 1).val * 16 + p'.val / 2 + 0 + (x 4).val / 192; omega)
      (by show s.val + p'.val % 2 + d.val / 64 % 2 = _; omega) (by show d.val % 64 = _; omega))
    (fun d => tap V c t _ _ _ _ e1 _ _ _ _ hb (by show r.val + p'.val / 2 + (64 + d.val) / 128
        = (grid2.coords t 1).val * 16 + p'.val / 2 + 0 + (x 4).val / 192; omega)
      (by show s.val + p'.val % 2 + (64 + d.val) / 64 % 2 = _; omega) (by show (64 + d.val) % 64 = _; omega))
    (fun d => tap V c t _ _ _ _ e2 _ _ _ _ hb (by show r.val + p'.val / 2 + (128 + d.val) / 128
        = (grid2.coords t 1).val * 16 + p'.val / 2 + 1 + (x 4).val / 192; omega)
      (by show s.val + p'.val % 2 + (128 + d.val) / 64 % 2 = _; omega) (by show (128 + d.val) % 64 = _; omega))
    (fun d => tap V c t _ _ _ _ e3 _ _ _ _ hb (by show r.val + p'.val / 2 + (192 + d.val) / 128
        = (grid2.coords t 1).val * 16 + p'.val / 2 + 1 + (x 4).val / 192; omega)
      (by show s.val + p'.val % 2 + (192 + d.val) / 64 % 2 = _; omega) (by show (192 + d.val) % 64 = _; omega)), w2, w3, w4, hch']
  unfold decK
  refine congrArg (fun w => head _ w _ _ _ ch) (funext fun q => funext fun o => wts V c t p' iw q o)

/-- The third region's array. -/
theorem arr2 : (dat2 (F := Ideal) V c).arrAt 5 cfg2.N
    = (fun y => decK V c (y 0) (y 1) ⟨(y 2).val * 16 + (y 4).val / 192, by
        have h2 : (y 2).val < 12 := (y 2).isLt
        have h4 : (y 4).val < 3072 := (y 4).isLt
        omega⟩ ⟨(y 4).val % 192, by omega⟩ (y 3) : S4x8x12x3x3072.Idx → EReal) := by
  refine (dat2 V c).arrAt_eq_of_covers 5 _ (by decide +kernel) fun t _ y => ?_
  obtain ⟨f1, f2, f3⟩ := off2 t
  blk_simp
  rw [after2_5]
  unfold outsAt2
  frame_out
  canon_tiles x h
  · rw [tile3]
    refine stored V c t 3 _ _ _ _ _ _ _ _ _ (f2 1 0) (f3 1 0) (f2 1 1) (f3 1 1) x _ _ _ _ _ ?_ ?_ ?_ ?_ ?_ <;> blk_simp [idx2 t] <;> (try dsimp only) <;> omega
  · rw [tile2]
    refine stored V c t 2 _ _ _ _ _ _ _ _ _ (f1 1 0) (f2 1 0) (f1 1 1) (f2 1 1) x _ _ _ _ _ ?_ ?_ ?_ ?_ ?_ <;> blk_simp [idx2 t] <;> (try dsimp only) <;> omega
  · rw [tile1]
    refine stored V c t 1 _ _ _ _ _ _ _ _ _ (f2 0 0) (f3 0 0) (f2 0 1) (f3 0 1) x _ _ _ _ _ ?_ ?_ ?_ ?_ ?_ <;> blk_simp [idx2 t] <;> (try dsimp only) <;> omega
  · refine stored V c t 0 _ _ _ _ _ _ _ _ _ (f1 0 0) (f2 0 0) (f1 0 1) (f2 0 1) x _ _ _ _ _ ?_ ?_ ?_ ?_ ?_ <;> blk_simp [idx2 t] <;> (try dsimp only) <;> omega

end Arr

end Cert.KernelIdeal.Val

end
-- ==== Proof.HostOut.lean ====
/- The kernel's three results over the arguments: the reconstruction, the indices, and the loss as the sum over the blocks. -/
module

public import proofs.«01_k».proof.Proof.HostIn
public import proofs.«01_k».proof.Proof.Region2

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.Vq

variable (m : (ℓ : Loc nD τ sig) → Buf (Elt Ideal) ℓ) (ρ : Dev nD → PrngReg) (c : Dev nD)

/-- The row the kernel picks at a pixel. -/
def picked (b : Fin 8) (h w : Fin 192) : Fin 1024 := first ((net m c).score b h w)

/-- Every number is a pixel's. -/
theorem num_eq (n : Fin 294912) : num ⟨n.val / 36864, by omega⟩ ⟨n.val / 192 % 192, by omega⟩ ⟨n.val % 192, by omega⟩ = n :=
  Fin.ext (by simp only [num]; omega)

/-- The indices. -/
theorem v104_at (b : Fin 8) (h w : Fin 192) : (show IVec S8x192x192 32 from W17 m ρ c (Proc.devRef .tc main_v104)) (ix3 b h w)
    = BitVec.ofNat 32 (picked m c b h w).val := by
  rw [W17_of m ρ c main_v104 (by decide +kernel), W16_of m ρ c main_v104 (by decide +kernel), W15_of m ρ c main_v104 (by decide +kernel),
    W14_of m ρ c main_v104 (by decide +kernel)]
  unfold W13
  after_reads_at
  rw [show W12 m ρ c (Proc.devRef .tc main_v103_0) = _ from W12_arr m ρ c 8, arr1_8]
  have hh := h.isLt
  have e : pix ⟨b.val * 24 + h.val / 8, lt_of_lt_of_eq (by omega) N_1.symm⟩ ⟨h.val % 8 * 192 + w.val, by omega⟩ = num b h w :=
    Fin.ext (by simp only [num, pix]; omega)
  refine congrArg (fun u : Fin 1024 → EReal => BitVec.ofNat 32 (first u).val) ?_
  exact (congrArg (scoresAt (V11 m ρ) c) e).trans (scores_at m ρ c b h w)

/-- The rows picked. -/
theorem v106_at (b : Fin 8) (h w : Fin 192) (d : Fin 64) :
    (show FVec Ideal S8x192x192x64 .bf16 from W13 m ρ c (Proc.devRef .tc main_v106)) (ix4 b h w d) = (net m c).cb (picked m c b h w) d := by
  unfold W13
  after_reads_at
  rw [show W12 m ρ c (Proc.devRef .tc main_v103_1) = _ from W12_arr m ρ c 9, arr1_9]
  refine (congrArg (fun u : Fin 1024 → EReal => (show Vec Ideal S64x1024 .bf16 from V11 m ρ c main_v100) (ix2 d (first u)))
    (scores_at m ρ c b h w)).trans ?_
  exact v100_at m ρ c _ d

/-- The loss buffer, reshaped. -/
theorem v105_read : (show FVec Ideal S_ .f32 from W17 m ρ c (Proc.devRef .tc main_v105)) ix0
    = (show FVec Ideal S1x1 .f32 from W12 m ρ c (Proc.devRef .tc main_v103_2)) (ix2 0 0) := by
  rw [W17_of m ρ c main_v105 (by decide +kernel), W16_of m ρ c main_v105 (by decide +kernel), W15_of m ρ c main_v105 (by decide +kernel),
    W14_of m ρ c main_v105 (by decide +kernel)]
  unfold W13
  after_reads_at

/-- The loss, over the blocks. -/
theorem v105_at : (show FVec Ideal S_ .f32 from W17 m ρ c (Proc.devRef .tc main_v105)) ix0
    = ∑ t : Fin 192, (∑ l : Fin 1536, part (V11 m ρ c main_v90) (V11 m ρ c main_v101) (V11 m ρ c main_v92) (V11 m ρ c main_v102)
      (V11 m ρ c main_v95) (V11 m ρ c main_v98) (patch (V11 m ρ c main_v87) ⟨t.val * 1536 + l.val, by omega⟩))
        * ((1 / 9437184 : ℝ) : EReal) := by
  rw [v105_read, show W12 m ρ c (Proc.devRef .tc main_v103_2) = _ from W12_arr m ρ c 10]
  refine (arr1_10 (V11 m ρ) c _).trans ?_
  exact Fintype.sum_equiv (finCongr N_1) _ _ fun _ => rfl

/-- A pad of one row or column on each side, at an index. -/
theorem ring_at (x : FVec Ideal S8x192x192x64 .bf16) (v : FVec Ideal S_ .bf16) (hp hz) (b : Fin 8) (h w : Fin 194) (d : Fin 64) :
    pad S8x194x194x64 ![0, 1, 1, 0] ![0, 1, 1, 0] ![0, 0, 0, 0] x v hp hz (ix4 b h w d)
      = if hh : (1 ≤ h.val ∧ h.val - 1 < 192) ∧ 1 ≤ w.val ∧ w.val - 1 < 192 then x (ix4 b ⟨h.val - 1, hh.1.2⟩ ⟨w.val - 1, hh.2.2⟩ d)
        else v ix0 := by
  pointwise
  exact dite_congr rfl (fun _ => rfl) fun _ => congrArg v (funext fun a => a.elim0)

/-- The padded picks. -/
theorem v107_at (b : Fin 8) (h w : Fin 194) (d : Fin 64) :
    (show FVec Ideal S8x194x194x64 .bf16 from W15 m ρ c (Proc.devRef .tc main_v107)) (ix4 b h w d)
      = (net m c).quant (picked m c) b h.val w.val d := by
  rw [W15_of m ρ c main_v107 (by decide +kernel)]
  unfold W14
  after_reads_simp
  simp -implicitDefEqProofs only [StableHlo.TRef.toBuf, StableHlo.TRef.ofBuf, cast_cast, cast_eq]
  refine (ring_at _ _ _ _ b h w d).trans ?_
  unfold Net.quant
  refine dite_congr rfl (fun hh => ?_) fun _ => by simp [sitofp, FloatOps.sitofp, constantI]
  have := v106_at m ρ c b ⟨h.val - 1, hh.1.2⟩ ⟨w.val - 1, hh.2.2⟩ d
  unfold W13 at this
  refine Eq.trans ?_ this
  after_reads_simp

/-- An argument is as launched before the third region. -/
theorem arg14 (a : Ref sig .tc) (h : a ∈ argRefs) : W14 m ρ c (Proc.devRef .tc a) = m ((c : Thread nD τ).loc a) := W14_args m ρ c a h

/-- The decoder's first weights, by parities and taps. -/
theorem v122_at (p : Fin 4) (x : Fin 256) (o : Fin 192) :
    (show FVec Ideal S4x256x192 .bf16 from W15 m ρ c (Proc.devRef .tc main_v122)) (ix3 p x o)
      = (net m c).u1 o ⟨x.val % 64, by omega⟩ ⟨p.val / 2 + 2 * (x.val / 128), by omega⟩ ⟨p.val % 2 + 2 * (x.val / 64 % 2), by omega⟩ := by
  have e : (net m c).u1 o ⟨x.val % 64, by omega⟩ ⟨p.val / 2 + 2 * (x.val / 128), by omega⟩ ⟨p.val % 2 + 2 * (x.val / 64 % 2), by omega⟩
      = (show FVec Ideal S192x64x4x4 .f32 from W14 m ρ c (Proc.devRef .tc main_arg6)) (ix4 o ⟨x.val % 64, by omega⟩
          ⟨p.val / 2 + 2 * (x.val / 128), by omega⟩ ⟨p.val % 2 + 2 * (x.val / 64 % 2), by omega⟩) := by
    rw [arg14 m ρ c main_arg6 (by decide +kernel)]; rfl
  rw [e]
  unfold W15
  generalize W14 m ρ c = w14
  clear e
  have hx : ∀ a a' b b' : Fin 4, a = a' → b = b' → (show FVec Ideal S192x64x4x4 .f32 from w14 (Proc.devRef .tc main_arg6)) (ix4 o ⟨x.val % 64, by omega⟩ a b)
      = (show FVec Ideal S192x64x4x4 .f32 from w14 (Proc.devRef .tc main_arg6)) (ix4 o ⟨x.val % 64, by omega⟩ a' b') := by
    rintro _ _ _ _ rfl rfl; rfl
  obtain rfl | rfl | rfl | rfl : p = 0 ∨ p = 1 ∨ p = 2 ∨ p = 3 := by omega
  all_goals
    generalize hv : (show FVec Ideal S192x64x4x4 .f32 from w14 (Proc.devRef .tc main_arg6)) _ = v
    after_reads_at
    after_reads_at
    refine (hx _ _ _ _ ?_ ?_).trans hv <;> exact Fin.ext (by simp)

/-- An argument is as launched after the second region. -/
theorem arg12 (a : Ref sig .tc) (h : a ∈ argRefs) : W12 m ρ c (Proc.devRef .tc a) = m ((c : Thread nD τ).loc a) := W12_args m ρ c a h

/-- The decoder's last weights. -/
theorem v124_at (k : Fin 3) (o : Fin 192) : (show FVec Ideal S3x192 .bf16 from W15 m ρ c (Proc.devRef .tc main_v124)) (ix2 k o) = (net m c).u2 k o := by
  unfold W15; after_reads_at; rw [arg12 m ρ c main_arg8 (by decide +kernel)]; rfl

/-- The decoder's first biases as a row. -/
theorem v125_at (o : Fin 192) : (show FVec Ideal S1x192 .f32 from W15 m ρ c (Proc.devRef .tc main_v125)) (ix2 0 o) = (net m c).c1 o := by
  unfold W15; after_reads_at; rw [arg12 m ρ c main_arg7 (by decide +kernel)]; rfl

/-- The decoder's last biases as a column. -/
theorem v126_at (k : Fin 3) : (show FVec Ideal S3x1 .f32 from W15 m ρ c (Proc.devRef .tc main_v126)) (ix2 k 0) = (net m c).c2 k := by
  unfold W15; after_reads_at; rw [arg12 m ρ c main_arg9 (by decide +kernel)]; rfl

/-- The decoded value at the parity and the place of the pixel (y, x). -/
theorem dec_at (b : Fin 8) (ch : Fin 3) (y x : Fin 384) (p : Fin 4) (r s : Fin 192) (hp : p.val = y.val % 2 * 2 + x.val % 2)
    (hr : r.val = y.val / 2) (hs : s.val = x.val / 2) : decK (V15 m ρ) c p b r s ch = (net m c).recon (picked m c) b ch y x := by
  have p1 : p.val / 2 = y.val % 2 := by omega
  have p2 : p.val % 2 = x.val % 2 := by omega
  unfold decK head Net.recon
  refine congrArg Ideal.logistic (congrArg₂ (· + ·) (Finset.sum_congr rfl fun o _ => congrArg₂ (· * ·) (v124_at m ρ c ch o) ?_) (v126_at m ρ c ch))
  refine congrArg (max · 0) (congrArg₂ (· + ·) ?_ (v125_at m ρ c o))
  unfold Net.up lane
  refine Finset.sum_congr rfl fun l _ => ?_
  refine (congrArg₂ (· * ·) (v107_at m ρ c b _ _ _) (v122_at m ρ c p l o)).trans ?_
  simp only [p1, p2, hr, hs]

/-- The reconstruction. -/
theorem v130_at (b : Fin 8) (ch : Fin 3) (y x : Fin 384) :
    (show FVec Ideal S8x3x384x384 .f32 from W17 m ρ c (Proc.devRef .tc main_v130)) (ix4 b ch y x) = (net m c).recon (picked m c) b ch y x := by
  unfold W17
  after_reads_at
  have e := congrFun (W16_arr m ρ c 5) (ix5 ⟨y.val % 2 * 2 + x.val % 2, by omega⟩ b ⟨y.val / 32, by omega⟩ ch ⟨y.val / 2 % 16 * 192 + x.val / 2, by omega⟩)
  refine e.trans ?_
  rw [arr2]
  exact dec_at m ρ c b ch y x _ _ _ rfl (show y.val / 32 * 16 + (y.val / 2 % 16 * 192 + x.val / 2) / 192 = y.val / 2 by omega)
    (show (y.val / 2 % 16 * 192 + x.val / 2) % 192 = x.val / 2 by omega)

end Cert.KernelIdeal.Val

end
-- ==== Proof.RefRun.lean ====
/- The reference's run: the list of its host operations, and its run to the contents that they leave. -/
module

public import proofs.«01_k».proof.ReferenceIdeal
public import proofs.«01_k».proof.Proof.Gen.ReferenceIdeal
public import Idealize.ShloMosaic.Lib.StableHlo.RunHlo
public import Idealize.ShloMosaic.Lib.StableHlo.RunRead
public import Idealize.ShloMosaic.Lib.Claim
public import Idealize.ShloMosaic.PureOps.Ideal

@[expose] public section

set_option maxRecDepth 16384

noncomputable section

namespace Cert.ReferenceIdeal.Val

open Idealize.ShloMosaic Idealize.ShloMosaic.TcCoe Idealize.SL.Sem
open Cert.ReferenceIdeal

local instance : Cert.ReferenceIdeal.Facts := Cert.ReferenceIdeal.Gen.facts

open Idealize.ShloMosaic.StableHlo (IsSeq seq after)

/-- A line followed by a line is the line of their concatenation. -/
theorem isSeq_app {p q : Prog (TpuEff nD τ sig (Elt Ideal) (Pipeline.Sig Λ₀ (Fin 0) fun p => (pcfgs (F := Ideal) p).Adm) .tc) PUnit}
    {a b : List (HloOp τ sig (Elt Ideal))} (hp : IsSeq p a) (hq : IsSeq q b) : IsSeq (p >>= fun _ => q) (a ++ b) := by
  unfold IsSeq at *
  rw [hp, hq, StableHlo.seq_append]

/-- One operation alone is the line of that operation. -/
theorem isSeq_last {op : HloOp τ sig (Elt Ideal)} :
    IsSeq (hlo rfl op fun _ => .ret (⟨⟩ : PUnit) :
      Prog (TpuEff nD τ sig (Elt Ideal) (Pipeline.Sig Λ₀ (Fin 0) fun p => (pcfgs (F := Ideal) p).Adm) .tc) PUnit) [op] := by
  unfold IsSeq
  simp only [StableHlo.seq]
  rfl

/-- A line of operations that a stretch of the program is. -/
abbrev Line (p : Prog (TpuEff nD τ sig (Elt Ideal) (Pipeline.Sig Λ₀ (Fin 0) fun p => (pcfgs (F := Ideal) p).Adm) .tc) PUnit) :=
  { ops : List (HloOp τ sig (Elt Ideal)) // IsSeq p ops }

/-- The operations of the program's first stretch. -/
def line0 (d : Dev nD) : Line (main_part0 (F := Ideal) d) := by
  apply Subtype.mk
  case property =>
    unfold main_part0
    repeat (first | exact isSeq_last | apply IsSeq.cons)

/-- The operations of the program's second stretch. -/
def line1 (d : Dev nD) : Line (main_part1 (F := Ideal) d) := by
  apply Subtype.mk
  case property =>
    unfold main_part1
    repeat (first | exact isSeq_last | apply IsSeq.cons)

/-- The operations of the program's third stretch. -/
def line2 (d : Dev nD) : Line (main_part2 (F := Ideal) d) := by
  apply Subtype.mk
  case property =>
    unfold main_part2
    repeat (first | exact isSeq_last | apply IsSeq.cons)

/-- The operations of the program's fourth stretch. -/
def line3 (d : Dev nD) : Line (main_part3 (F := Ideal) d) := by
  apply Subtype.mk
  case property =>
    unfold main_part3
    repeat (first | exact isSeq_last | apply IsSeq.cons)

/-- The operations of the program's last stretch. -/
def line4 (d : Dev nD) : Line (main_part4 (F := Ideal) d) := by
  apply Subtype.mk
  case property =>
    unfold main_part4
    hlo_seq

/-- All operations of the program, in order. -/
def ops (d : Dev nD) : List (HloOp τ sig (Elt Ideal)) :=
  (line0 d).1 ++ ((line1 d).1 ++ ((line2 d).1 ++ ((line3 d).1 ++ (line4 d).1)))

/-- The program is the line of its operations. -/
theorem main_ops (d : Dev nD) : IsSeq (main (F := Ideal) d) (ops d) :=
  isSeq_app (line0 d).2 (isSeq_app (line1 d).2 (isSeq_app (line2 d).2 (isSeq_app (line3 d).2 (line4 d).2)))

/-- What a line of operations needs to be run: it touches device buffers only and allocates none. -/
abbrev Fit (l : List (HloOp τ sig (Elt Ideal))) : Prop :=
  (l.Forall fun op => op.bufs ⊆ StableHlo.tcRefs τ sig) ∧ l.Forall fun op => op.fresh = ∅

/-- A concatenation of two fit lines is fit. -/
theorem fit_app {a b : List (HloOp τ sig (Elt Ideal))} (ha : Fit a) (hb : Fit b) : Fit (a ++ b) :=
  ⟨List.forall_append.mpr ⟨ha.1, hb.1⟩, List.forall_append.mpr ⟨ha.2, hb.2⟩⟩

/-- The first stretch is fit. -/
theorem fit0 (d : Dev nD) : Fit (line0 d).1 :=
  ⟨by simp [line0], by simp only [line0]; repeat (first | exact rfl | refine ⟨rfl, ?_⟩)⟩

/-- The second stretch is fit. -/
theorem fit1 (d : Dev nD) : Fit (line1 d).1 :=
  ⟨by simp [line1], by simp only [line1]; repeat (first | exact rfl | refine ⟨rfl, ?_⟩)⟩

/-- The third stretch is fit. -/
theorem fit2 (d : Dev nD) : Fit (line2 d).1 :=
  ⟨by simp [line2], by simp only [line2]; repeat (first | exact rfl | refine ⟨rfl, ?_⟩)⟩

/-- The fourth stretch is fit. -/
theorem fit3 (d : Dev nD) : Fit (line3 d).1 :=
  ⟨by simp [line3], by simp only [line3]; repeat (first | exact rfl | refine ⟨rfl, ?_⟩)⟩

/-- The last stretch is fit. -/
theorem fit4 (d : Dev nD) : Fit (line4 d).1 :=
  ⟨by simp [line4], by simp only [line4]; repeat (first | exact rfl | refine ⟨rfl, ?_⟩)⟩

/-- The whole line is fit. -/
theorem fit (d : Dev nD) : Fit (ops d) :=
  fit_app (fit0 d) (fit_app (fit1 d) (fit_app (fit2 d) (fit_app (fit3 d) (fit4 d))))

/-- The reference terminates without fault, and every buffer ends holding what the line of operations leaves there. -/
theorem run (m : (ℓ : Loc nD τ sig) → Buf (Elt Ideal) ℓ) (g : Dev nD → PrngReg) :
    θ_run (defs (F := Ideal)) (onTc (τ := τ) (main (F := Ideal))) ⟨m, fun _ => 0, g⟩ fun r =>
      ∀ (d : Dev nD) (b : Ref sig .tc), r.2.mem ((d.tc : Thread nD τ).loc b) = after (ops d) (StableHlo.launchContents m d) (Proc.devRef .tc b) :=
  StableHlo.run_seq (by decide) (by decide) _ _ ops main_ops (fun d => (fit d).1) m g
    (fun d => List.forall_iff_forall_mem.mp (fit d).2)

/-- The line writes no argument. -/
theorem after_args (d : Dev nD) (V : Valuation τ sig (Elt Ideal)) :
    after (ops d) V (Proc.devRef .tc main_arg0) = V (Proc.devRef .tc main_arg0)
    ∧ after (ops d) V (Proc.devRef .tc main_arg1) = V (Proc.devRef .tc main_arg1)
    ∧ after (ops d) V (Proc.devRef .tc main_arg2) = V (Proc.devRef .tc main_arg2)
    ∧ after (ops d) V (Proc.devRef .tc main_arg3) = V (Proc.devRef .tc main_arg3)
    ∧ after (ops d) V (Proc.devRef .tc main_arg4) = V (Proc.devRef .tc main_arg4)
    ∧ after (ops d) V (Proc.devRef .tc main_arg5) = V (Proc.devRef .tc main_arg5)
    ∧ after (ops d) V (Proc.devRef .tc main_arg6) = V (Proc.devRef .tc main_arg6)
    ∧ after (ops d) V (Proc.devRef .tc main_arg7) = V (Proc.devRef .tc main_arg7)
    ∧ after (ops d) V (Proc.devRef .tc main_arg8) = V (Proc.devRef .tc main_arg8)
    ∧ after (ops d) V (Proc.devRef .tc main_arg9) = V (Proc.devRef .tc main_arg9) := by
  refine ⟨?_, ?_, ?_, ?_, ?_, ?_, ?_, ?_, ?_, ?_⟩ <;> after_reads_simp

end Cert.ReferenceIdeal.Val

end
-- ==== Proof.RefPick.lean ====
/- The reference's choice of a row and the reading of it: its arg-min is the first index at which the values are least, and its reading of the
   table at a small index is the table's row. -/
module

public import proofs.«01_k».proof.Proof.RefRun
public import proofs.«01_k».proof.Proof.Pick
public import Idealize.ShloMosaic.Lib.Pipeline.ValueKit
public import Idealize.ShloMosaic.Lib.Routing.Ops

@[expose] public section

noncomputable section

namespace Cert.ReferenceIdeal.Val

open Idealize.ShloMosaic Idealize.ShloMosaic.TcCoe Idealize.SL.Sem
open Cert.ReferenceIdeal Cert.Vq

local instance : Cert.ReferenceIdeal.Facts := Cert.ReferenceIdeal.Gen.facts

/-- One pair comes before another: its value is smaller, or the values are equal and its index is not larger. -/
def Before (p q : EReal × BitVec 32) : Prop := p.1 < q.1 ∨ (p.1 = q.1 ∧ p.2.toInt ≤ q.2.toInt)

/-- A pair comes before itself. -/
theorem before_refl (p : EReal × BitVec 32) : Before p p := Or.inr ⟨rfl, le_rfl⟩

/-- The order of pairs is transitive. -/
theorem before_trans {p q r : EReal × BitVec 32} (h : Before p q) (h' : Before q r) : Before p r := by
  rcases h with h | ⟨h, hi⟩ <;> rcases h' with h' | ⟨h', hi'⟩
  · exact Or.inl (h.trans h')
  · exact Or.inl (h'.symm ▸ h)
  · exact Or.inl (h.symm ▸ h')
  · exact Or.inr ⟨h.trans h', hi.trans hi'⟩

/-- A comparison of values at the ideal instance. -/
theorem cmpf_eq (p : CmpFPredicate) (a b : EReal) : FloatOps.cmpf (F := Ideal) (φ := FTy.f32) p a b = Ideal.cmp p a b := rfl

/-- A step of the arg-min keeps one of its two pairs, and the kept one comes before both. -/
theorem step_spec (p q : EReal × BitVec 32) :
    (reducer_argmin_f32_i32 (F := Ideal) p q = p ∨ reducer_argmin_f32_i32 (F := Ideal) p q = q)
    ∧ Before (reducer_argmin_f32_i32 (F := Ideal) p q) p ∧ Before (reducer_argmin_f32_i32 (F := Ideal) p q) q := by
  obtain ⟨a, i⟩ := p
  obtain ⟨b, j⟩ := q
  rcases lt_trichotomy a b with hl | he | hg
  · have e : reducer_argmin_f32_i32 (F := Ideal) (a, i) (b, j) = (a, i) := by
      simp [reducer_argmin_f32_i32, cmpf_eq, Ideal.cmp, hl, hl.ne, IntOp.ori, IntOp.andi, Scalar.select]
    rw [e]
    exact ⟨Or.inl rfl, before_refl _, Or.inl hl⟩
  · subst he
    by_cases hij : i.toInt < j.toInt
    · have e : reducer_argmin_f32_i32 (F := Ideal) (a, i) (a, j) = (a, i) := by
        simp [reducer_argmin_f32_i32, cmpf_eq, Ideal.cmp, IntOp.ori, IntOp.andi, IntOp.cmpi, BitVec.slt, hij, Scalar.select]
      rw [e]
      exact ⟨Or.inl rfl, before_refl _, Or.inr ⟨rfl, hij.le⟩⟩
    · have e : reducer_argmin_f32_i32 (F := Ideal) (a, i) (a, j) = (a, j) := by
        simp [reducer_argmin_f32_i32, cmpf_eq, Ideal.cmp, IntOp.ori, IntOp.andi, IntOp.cmpi, BitVec.slt, hij, Scalar.select]
      rw [e]
      exact ⟨Or.inr rfl, Or.inr ⟨rfl, not_lt.mp hij⟩, before_refl _⟩
  · have e : reducer_argmin_f32_i32 (F := Ideal) (a, i) (b, j) = (b, j) := by
      simp [reducer_argmin_f32_i32, cmpf_eq, Ideal.cmp, hg.not_gt, hg.ne', IntOp.ori, IntOp.andi, Scalar.select]
    rw [e]
    exact ⟨Or.inr rfl, Or.inl hg, before_refl _⟩

/-- The arg-min over a list keeps the first pair or one of the list, and the kept one comes before all. -/
theorem fold_spec (l : List (EReal × BitVec 32)) (p : EReal × BitVec 32) :
    (l.foldl (reducer_argmin_f32_i32 (F := Ideal)) p = p ∨ l.foldl (reducer_argmin_f32_i32 (F := Ideal)) p ∈ l)
    ∧ Before (l.foldl (reducer_argmin_f32_i32 (F := Ideal)) p) p ∧ ∀ q ∈ l, Before (l.foldl (reducer_argmin_f32_i32 (F := Ideal)) p) q := by
  induction l generalizing p with
  | nil => exact ⟨Or.inl rfl, before_refl p, fun q hq => absurd hq List.not_mem_nil⟩
  | cons a l ih =>
    obtain ⟨h1, h2, h3⟩ := ih (reducer_argmin_f32_i32 (F := Ideal) p a)
    obtain ⟨s1, s2, s3⟩ := step_spec p a
    rw [List.foldl_cons]
    refine ⟨?_, before_trans h2 s2, fun q hq => ?_⟩
    · rcases h1 with h1 | h1
      · rcases s1 with s1 | s1
        · exact Or.inl (h1.trans s1)
        · exact Or.inr (List.mem_cons.mpr (Or.inl (h1.trans s1)))
      · exact Or.inr (List.mem_cons_of_mem _ h1)
    · rcases List.mem_cons.mp hq with rfl | hq
      · exact before_trans h2 s3
      · exact h3 q hq

/-- Positive infinity's bits. -/
theorem inf_bits : Ideal.ofBits FTy.f32 2139095040#32 = ⊤ := by simp [Ideal.ofBits, Ideal.ieee]

/-- The arg-min along the rows of a table is the first index at which the row is least. -/
theorem argmin_at (x : FVec Ideal S294912x1024 .f32) (h : S294912x1024.ReducesTo [1] S294912) (hu) (n : Fin 294912) :
    (Host.argReduce (reducer_argmin_f32_i32 (F := Ideal)) x (iotaInDim S294912x1024 32 1) (constant S_ FTy.f32 2139095040#32) (constantI S_ 32 0#32)
      h hu (ix1 n)).2 = BitVec.ofNat 32 (first fun k : Fin 1024 => x (ix2 n k)).val := by
  rw [Ideal.argReduce_eq_reduce2, Host.reduce2_eq_foldl_fiber]
  have hmem : ∀ p, p ∈ Host.argReduceFiber x (iotaInDim S294912x1024 32 1) h (ix1 n) ↔ ∃ k : Fin 1024, p = (x (ix2 n k), BitVec.ofNat 32 k.val) := by
    intro p
    unfold Host.argReduceFiber
    simp only [List.mem_map, List.mem_filter, List.mem_finRange, true_and, decide_eq_true_eq]
    constructor
    · rintro ⟨i, hi, rfl⟩
      obtain ⟨k, hk⟩ := (h.fiber_r2_a1 (ix1 n) _).mp hi
      exact ⟨k, by rw [← hk]; rfl⟩
    · rintro ⟨k, rfl⟩
      refine ⟨S294912x1024.rowMajor (ix2 n k), ?_, ?_⟩
      · rw [Equiv.symm_apply_apply]
        exact (h.fiber_r2_a1 (ix1 n) _).mpr ⟨k, rfl⟩
      · rw [Equiv.symm_apply_apply]; rfl
  obtain ⟨h1, -, h3⟩ := fold_spec (Host.argReduceFiber x (iotaInDim S294912x1024 32 1) h (ix1 n))
    ((constant S_ FTy.f32 2139095040#32 : FVec Ideal S_ .f32) (Shape.Idx.first hu), constantI S_ 32 0#32 (Shape.Idx.first hu))
  have hI : ∀ k : Fin 1024, (BitVec.ofNat 32 k.val).toInt = (k.val : ℤ) := fun k => toInt_ofNat _ (by omega)
  rcases h1 with h1 | h1
  · have hall : ∀ k : Fin 1024, x (ix2 n k) = ⊤ := fun k => by
      have := h3 _ ((hmem _).mpr ⟨k, rfl⟩)
      rw [h1] at this
      rcases this with this | ⟨this, -⟩
      · exact absurd (lt_of_le_of_lt (le_of_eq inf_bits.symm) this) not_top_lt
      · exact this.symm.trans inf_bits
    have e : first (fun k : Fin 1024 => x (ix2 n k)) = 0 :=
      first_eq _ _ (fun j => by rw [hall, hall]) fun j hj => absurd hj (Fin.not_lt_zero j)
    rw [h1, e]; rfl
  · obtain ⟨k, hk⟩ := (hmem _).mp h1
    have e : first (fun k : Fin 1024 => x (ix2 n k)) = k := by
      refine first_eq _ _ (fun j => ?_) fun j hj => ?_
      · have := h3 _ ((hmem _).mpr ⟨j, rfl⟩)
        rw [hk] at this
        rcases this with this | ⟨this, -⟩
        · exact this.le
        · exact le_of_eq this
      · have := h3 _ ((hmem _).mpr ⟨j, rfl⟩)
        rw [hk] at this
        rcases this with this | ⟨-, this⟩
        · exact this
        · dsimp only at this
          rw [hI, hI] at this
          have : k.val ≤ j.val := by exact_mod_cast this
          exact absurd hj (by rw [Fin.lt_def]; omega)
    rw [hk, e]

/-- A small index passes the tests of the table's reading. -/
theorem small (k : ℕ) (hk : k < 1024) : IntOp.cmpi CmpIPredicate.slt (BitVec.ofNat 32 k) 0#32 = 0#1
    ∧ IntOp.cmpi CmpIPredicate.sge (BitVec.ofNat 32 k) 0#32 = 1#1 ∧ IntOp.cmpi CmpIPredicate.sle (BitVec.ofNat 32 k) 1023#32 = 1#1 := by
  have h := toInt_ofNat k (by omega)
  have h' : (1023#32).toInt = 1023 := rfl
  refine ⟨?_, ?_, ?_⟩ <;> simp [IntOp.cmpi, BitVec.slt, BitVec.sle, h, h']
  · rw [decide_eq_false (by omega)]; rfl
  · rw [decide_eq_true (by omega)]; rfl

end Cert.ReferenceIdeal.Val

end
-- ==== Proof.Eq.lean ====
/- The equations between the two ways of computing the network: the scores order the codebook rows as the distances do, the least score gives
   the squared error, and the sixteen taps of the spread-out picks are the four taps of their parity. -/
module

public import proofs.«01_k».proof.Proof.Spec
public import Idealize.ShloMosaic.PureOps.Ideal

@[expose] public section

noncomputable section

namespace Cert.Vq

open Idealize.ShloMosaic

/-! ## Real values -/

/-- The value is a real number. -/
def Rl (x : EReal) : Prop := ∃ r : ℝ, x = (r : EReal)

/-- Zero is real. -/
theorem rl_zero : Rl 0 := ⟨0, rfl⟩

/-- A sum of two reals is real. -/
theorem rl_add (x y : EReal) (hx : Rl x) (hy : Rl y) : Rl (x + y) := by
  obtain ⟨r, rfl⟩ := hx; obtain ⟨s, rfl⟩ := hy; exact ⟨r + s, (EReal.coe_add r s).symm⟩

/-- A product of two reals is real. -/
theorem rl_mul (x y : EReal) (hx : Rl x) (hy : Rl y) : Rl (x * y) := by
  obtain ⟨r, rfl⟩ := hx; obtain ⟨s, rfl⟩ := hy; exact ⟨r * s, (EReal.coe_mul r s).symm⟩

/-- The maximum of two reals is real. -/
theorem rl_max (x y : EReal) (hx : Rl x) (hy : Rl y) : Rl (max x y) := by
  rcases max_choice x y with h | h <;> rw [h] <;> assumption

/-- A finite sum of reals is real. -/
theorem rl_sum {ι : Type} [Fintype ι] (f : ι → EReal) (h : ∀ i, Rl (f i)) : Rl (∑ i, f i) :=
  Finset.sum_induction f Rl rl_add rl_zero fun i _ => h i

/-- The sum of reals, taken among the extended reals, is their sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over a product of ranges is the double sum. -/
theorem sum_split {M : Type} [AddCommMonoid M] {N : ℕ} (m n : ℕ) (hN : N = m * n) (f : Fin N → M) :
    ∑ i : Fin m, ∑ j : Fin n, f ⟨i.val * n + j.val, by
      subst hN
      calc i.val * n + j.val < i.val * n + n := by omega
        _ = (i.val + 1) * n := by ring
        _ ≤ m * n := Nat.mul_le_mul_right n i.isLt⟩ = ∑ k, f k := by
  subst hN
  rw [← Fintype.sum_prod_type']
  refine Fintype.sum_equiv finProdFinEquiv _ _ fun p => congrArg f (Fin.ext ?_)
  simp only [finProdFinEquiv_apply_val]
  ring

namespace Net

variable (N : Net)

/-- The image, the encoder's weights and biases and the codebook are real. -/
structure Real : Prop where
  x : ∀ b c i j, Rl (N.x b c i j)
  w1 : ∀ o c i j, Rl (N.w1 o c i j)
  b1 : ∀ o, Rl (N.b1 o)
  w2 : ∀ d o, Rl (N.w2 d o)
  b2 : ∀ d, Rl (N.b2 d)
  cb : ∀ k d, Rl (N.cb k d)

variable {N}

/-- The encoded pixels are real. -/
theorem Real.z (hN : N.Real) (b : Fin 8) (h w : Fin 192) (d : Fin 64) : Rl (N.z b h w d) := by
  refine rl_add _ _ (rl_sum _ fun o => rl_mul _ _ (hN.w2 d o) (rl_max _ _ (rl_add _ _ ?_ (hN.b1 o)) rl_zero)) (hN.b2 d)
  refine rl_sum _ fun ky => rl_sum _ fun kx => rl_sum _ fun c => rl_mul _ _ ?_ (hN.w1 o c ky kx)
  unfold Net.pad
  split_ifs with hp
  · exact hN.x _ _ _ _
  · exact rl_zero

/-- The distance is the score and the pixel's squared length, all real. -/
theorem Real.dist (hN : N.Real) (b : Fin 8) (h w : Fin 192) : ∃ (s : Fin 1024 → ℝ) (q : ℝ),
    (∀ k, N.score b h w k = (s k : EReal)) ∧ (∀ k, N.dist b h w k = ((s k + q : ℝ) : EReal)) ∧
    (∑ d : Fin 64, N.z b h w d * N.z b h w d = (q : EReal)) ∧
    ∀ k, ∑ d : Fin 64, (N.cb k d - N.z b h w d) * (N.cb k d - N.z b h w d) = ((s k + q : ℝ) : EReal) := by
  choose z hz using hN.z b h w
  choose e he using hN.cb
  refine ⟨fun k => ∑ d, -2 * e k d * z d + ∑ d, e k d * e k d, ∑ d, z d * z d, fun k => ?_, fun k => ?_, ?_, fun k => ?_⟩
  · simp only [Net.score, hz, he, ← EReal.coe_mul, ← coe_sum, ← EReal.coe_add]
  · simp only [Net.dist, hz, he, ← EReal.coe_mul, ← coe_sum, ← EReal.coe_add, ← EReal.coe_sub]
    refine congrArg _ ?_
    have : ∑ d, -2 * e k d * z d = -(2 * ∑ d, z d * e k d) := by
      rw [Finset.mul_sum, ← Finset.sum_neg_distrib]
      exact Finset.sum_congr rfl fun d _ => by ring
    rw [this]; ring
  · simp only [hz, ← EReal.coe_mul, ← coe_sum]
  · simp only [hz, he, ← EReal.coe_mul, ← coe_sum, ← EReal.coe_add, ← EReal.coe_sub]
    refine congrArg _ ?_
    simp only [← Finset.sum_add_distrib]
    exact Finset.sum_congr rfl fun d _ => by ring

/-- The scores pick the row that the distances pick. -/
theorem Real.pick (hN : N.Real) (b : Fin 8) (h w : Fin 192) : first (N.score b h w) = N.pick b h w := by
  obtain ⟨s, q, hs, hd, -, -⟩ := hN.dist b h w
  refine first_congr _ _ fun i j => ?_
  rw [hs, hs, hd, hd, EReal.coe_le_coe_iff, EReal.coe_le_coe_iff]
  exact ⟨fun h => by linarith, fun h => by linarith⟩

/-- The squared error of a pixel. -/
def sq (N : Net) (b : Fin 8) (h w : Fin 192) : EReal :=
  ∑ d : Fin 64, (N.cb (N.pick b h w) d - N.z b h w d) * (N.cb (N.pick b h w) d - N.z b h w d)

/-- The least score and the pixel's squared length are the squared error. -/
theorem Real.sq (hN : N.Real) (b : Fin 8) (h w : Fin 192) :
    N.score b h w (first (N.score b h w)) + ∑ d : Fin 64, N.z b h w d * N.z b h w d = N.sq b h w := by
  rw [hN.pick]
  obtain ⟨s, q, hs, -, hq, he⟩ := hN.dist b h w
  rw [hs, hq, Net.sq, he, EReal.coe_add]

/-- The squared error of a pixel is real. -/
theorem Real.sq_rl (hN : N.Real) (b : Fin 8) (h w : Fin 192) : Rl (N.sq b h w) := by
  obtain ⟨s, q, -, -, -, he⟩ := hN.dist b h w
  exact ⟨_, he _⟩

/-- The mean of the squared error, summed block by block, is that of the sum over all pixels and channels, halved and doubled. -/
theorem Real.loss (hN : N.Real) (P : Fin 294912 → EReal)
    (hP : ∀ b h w, P ⟨b.val * 36864 + h.val * 192 + w.val, by omega⟩ = N.sq b h w) :
    ∑ t : Fin 192, (∑ l : Fin 1536, P ⟨t.val * 1536 + l.val, by omega⟩) * ((1 / 9437184 : ℝ) : EReal)
      = Ideal.div N.err ((18874368 : ℝ) : EReal) + Ideal.div N.err ((18874368 : ℝ) : EReal) := by
  have hall : ∀ n, Rl (P n) := fun n => by
    have e : n = ⟨(⟨n.val / 36864, by omega⟩ : Fin 8).val * 36864 + (⟨n.val / 192 % 192, by omega⟩ : Fin 192).val * 192
        + (⟨n.val % 192, by omega⟩ : Fin 192).val, by dsimp only; omega⟩ := Fin.ext (by dsimp only; omega)
    rw [e, hP]; exact hN.sq_rl _ _ _
  choose p hp using hall
  have herr : N.err = ((∑ n, p n : ℝ) : EReal) := by
    rw [coe_sum, ← sum_split 8 36864 (by norm_num)]
    unfold Net.err
    refine Finset.sum_congr rfl fun b _ => ?_
    rw [← sum_split 192 192 (by norm_num) fun j : Fin 36864 => (p ⟨b.val * 36864 + j.val, by omega⟩ : EReal)]
    refine Finset.sum_congr rfl fun h _ => Finset.sum_congr rfl fun w _ => ?_
    refine (hP b h w).symm.trans ?_
    rw [hp]
    exact congrArg (fun n => (p n : EReal)) (Fin.ext (by dsimp only; omega))
  rw [herr]
  have hd : ∀ r : ℝ, Ideal.div (r : EReal) ((18874368 : ℝ) : EReal) = ((r / 18874368 : ℝ) : EReal) := fun r => by
    rw [Ideal.div_coe (by norm_num), ← EReal.coe_mul]; exact congrArg _ (by ring)
  rw [hd, ← EReal.coe_add]
  simp only [hp, ← coe_sum, ← EReal.coe_mul]
  rw [← Finset.sum_mul, sum_split 192 1536 (by norm_num) p]
  exact congrArg _ (by ring)

variable (N)

/-- The rows `k` picked, spread out: a zero between neighbours and two more on each side. -/
def dil (k : Fin 8 → Fin 192 → Fin 192 → Fin 1024) (b : Fin 8) (i j : ℕ) (d : Fin 64) : EReal :=
  if h : (2 ≤ i ∧ (i - 2) % 2 = 0 ∧ (i - 2) / 2 < 192) ∧ 2 ≤ j ∧ (j - 2) % 2 = 0 ∧ (j - 2) / 2 < 192 then
    N.cb (k b ⟨(i - 2) / 2, h.1.2.2⟩ ⟨(j - 2) / 2, h.2.2.2⟩) d else 0

/-- The transposed convolution over the spread-out rows: sixteen taps. -/
def deconv (k : Fin 8 → Fin 192 → Fin 192 → Fin 1024) (b : Fin 8) (y x : Fin 384) (o : Fin 192) : EReal :=
  ∑ ky : Fin 4, ∑ kx : Fin 4, ∑ d : Fin 64, N.dil k b (ky.val + y.val) (kx.val + x.val) d * N.u1 o d ky kx

/-- Of four terms those of one parity remain when the others are zero. -/
theorem sum_parity (f : Fin 4 → EReal) (y : ℕ) (h : ∀ k : Fin 4, (k.val + y) % 2 = 1 → f k = 0) :
    ∑ k, f k = ∑ t : Fin 2, f ⟨y % 2 + 2 * t.val, by omega⟩ := by
  rw [Fin.sum_univ_four, Fin.sum_univ_two]
  rcases Nat.mod_two_eq_zero_or_one y with hy | hy
  · rw [h 1 (by simp; omega), h 3 (by simp; omega)]
    simp only [hy]
    simp
  · rw [h 0 (by simp; omega), h 2 (by simp; omega)]
    simp only [hy]
    simp

/-- The sixteen taps over the spread-out rows are the four taps over the padded rows. -/
theorem deconv_eq_up (k : Fin 8 → Fin 192 → Fin 192 → Fin 1024) (b : Fin 8) (y x : Fin 384) (o : Fin 192) : N.deconv k b y x o = N.up k b y x o := by
  have hy0 : ∀ (ky kx : Fin 4) (d : Fin 64), (ky.val + y.val) % 2 = 1 → N.dil k b (ky.val + y.val) (kx.val + x.val) d = 0 := fun ky kx d h =>
    dif_neg fun hh => by omega
  have hx0 : ∀ (ky kx : Fin 4) (d : Fin 64), (kx.val + x.val) % 2 = 1 → N.dil k b (ky.val + y.val) (kx.val + x.val) d = 0 := fun ky kx d h =>
    dif_neg fun hh => by omega
  unfold deconv up
  rw [sum_parity _ y.val fun ky h => Finset.sum_eq_zero fun kx _ => Finset.sum_eq_zero fun d _ => by rw [hy0 ky kx d h, zero_mul]]
  rw [← sum_split (N := 256) 2 128 (by norm_num)]
  refine Finset.sum_congr rfl fun ty _ => ?_
  rw [sum_parity _ x.val fun kx h => Finset.sum_eq_zero fun d _ => by rw [hx0 _ kx d h, zero_mul]]
  rw [← sum_split (N := 128) 2 64 (by norm_num)]
  refine Finset.sum_congr rfl fun tx _ => Finset.sum_congr rfl fun d _ => ?_
  have hty := ty.isLt
  have htx := tx.isLt
  have hd := d.isLt
  have e1 : (ty.val * 128 + (tx.val * 64 + d.val)) / 128 = ty.val := by omega
  have e2 : (ty.val * 128 + (tx.val * 64 + d.val)) / 64 % 2 = tx.val := by omega
  have e3 : (ty.val * 128 + (tx.val * 64 + d.val)) % 64 = d.val := by omega
  simp only [e1, e2, e3]
  refine congrArg (· * _) ?_
  unfold dil quant
  refine dite_congr (propext (by omega)) (fun h => ?_) fun _ => rfl
  have hi : (y.val % 2 + 2 * ty.val + y.val - 2) / 2 = y.val / 2 + y.val % 2 + ty.val - 1 := by omega
  have hj : (x.val % 2 + 2 * tx.val + x.val - 2) / 2 = x.val / 2 + x.val % 2 + tx.val - 1 := by omega
  simp only [hi, hj]

end Net

end Cert.Vq

end
-- ==== Proof.RefStages.lean ====
/- The reference's stages: what each stretch of its operations leaves, over the arguments, up to the picked indices. -/
module

public import proofs.«01_k».proof.Proof.RefRun
public import proofs.«01_k».proof.Proof.RefPick
public import proofs.«01_k».proof.Proof.Eq
public import Idealize.ShloMosaic.Lib.Pipeline.ValueKit
public import Idealize.ShloMosaic.Lib.StableHlo.ReadAt

@[expose] public section

set_option maxRecDepth 16384

noncomputable section

namespace Cert.ReferenceIdeal.Val

open Idealize.ShloMosaic Idealize.ShloMosaic.TcCoe Idealize.SL.Sem
open Cert.ReferenceIdeal Cert.Vq

local instance : Cert.ReferenceIdeal.Facts := Cert.ReferenceIdeal.Gen.facts

open Idealize.ShloMosaic.StableHlo (after)

variable (d : Dev nD) (V : Valuation τ sig (Elt Ideal))

/-- The network's arguments as a valuation holds them. -/
def net : Net where
  x b ch i j := (show FVec Ideal S8x3x384x384 .f32 from V (Proc.devRef .tc main_arg0)) (ix4 b ch i j)
  w1 o ch i j := (show FVec Ideal S192x3x4x4 .f32 from V (Proc.devRef .tc main_arg1)) (ix4 o ch i j)
  b1 o := (show FVec Ideal S192 .f32 from V (Proc.devRef .tc main_arg2)) (ix1 o)
  w2 d o := (show FVec Ideal S64x192x1x1 .f32 from V (Proc.devRef .tc main_arg3)) (ix4 d o 0 0)
  b2 d := (show FVec Ideal S64 .f32 from V (Proc.devRef .tc main_arg4)) (ix1 d)
  cb k d := (show FVec Ideal S1024x64 .f32 from V (Proc.devRef .tc main_arg5)) (ix2 k d)
  u1 o d i j := (show FVec Ideal S192x64x4x4 .f32 from V (Proc.devRef .tc main_arg6)) (ix4 o d i j)
  c1 o := (show FVec Ideal S192 .f32 from V (Proc.devRef .tc main_arg7)) (ix1 o)
  u2 k o := (show FVec Ideal S3x192x1x1 .f32 from V (Proc.devRef .tc main_arg8)) (ix4 k o 0 0)
  c2 k := (show FVec Ideal S3 .f32 from V (Proc.devRef .tc main_arg9)) (ix1 k)

/-- Two valuations that hold the same arguments hold the same network. -/
theorem net_congr {V W : Valuation τ sig (Elt Ideal)} (h0 : V (Proc.devRef .tc main_arg0) = W (Proc.devRef .tc main_arg0))
    (h1 : V (Proc.devRef .tc main_arg1) = W (Proc.devRef .tc main_arg1)) (h2 : V (Proc.devRef .tc main_arg2) = W (Proc.devRef .tc main_arg2))
    (h3 : V (Proc.devRef .tc main_arg3) = W (Proc.devRef .tc main_arg3)) (h4 : V (Proc.devRef .tc main_arg4) = W (Proc.devRef .tc main_arg4))
    (h5 : V (Proc.devRef .tc main_arg5) = W (Proc.devRef .tc main_arg5)) (h6 : V (Proc.devRef .tc main_arg6) = W (Proc.devRef .tc main_arg6))
    (h7 : V (Proc.devRef .tc main_arg7) = W (Proc.devRef .tc main_arg7)) (h8 : V (Proc.devRef .tc main_arg8) = W (Proc.devRef .tc main_arg8))
    (h9 : V (Proc.devRef .tc main_arg9) = W (Proc.devRef .tc main_arg9)) : net V = net W := by
  unfold net
  rw [h0, h1, h2, h3, h4, h5, h6, h7, h8, h9]

/-! ## The stretches -/

/-- The contents when the image is padded. -/
def P0 : Valuation τ sig (Elt Ideal) := after ((line0 d).1.take 3) V
/-- The contents after the first stretch. -/
def A0 : Valuation τ sig (Elt Ideal) := after ((line0 d).1.drop 3) (P0 d V)
/-- The contents when the first convolution is summed. -/
def A1 : Valuation τ sig (Elt Ideal) := after ((line1 d).1.take 37) (A0 d V)
/-- The contents when the pixels are encoded. -/
def A2 : Valuation τ sig (Elt Ideal) := after (((line1 d).1.drop 37).take 12) (A1 d V)
/-- The contents after the second stretch. -/
def A3 : Valuation τ sig (Elt Ideal) := after (((line1 d).1.drop 37).drop 12) (A2 d V)
/-- The contents when the distances are known. -/
def A4 : Valuation τ sig (Elt Ideal) := after ((line2 d).1.take 6) (A3 d V)
/-- The contents when the rows are picked. -/
def A5 : Valuation τ sig (Elt Ideal) := after (((line2 d).1.drop 6).take 5) (A4 d V)
/-- The contents when the rows are taken. -/
def A6 : Valuation τ sig (Elt Ideal) := after ((((line2 d).1.drop 6).drop 5).take 23) (A5 d V)
/-- The contents when the picked rows are spread out. -/
def A7 : Valuation τ sig (Elt Ideal) := after (((((line2 d).1.drop 6).drop 5).drop 23).take 4) (A6 d V)
/-- The contents after the third stretch. -/
def A8 : Valuation τ sig (Elt Ideal) := after (((((line2 d).1.drop 6).drop 5).drop 23).drop 4) (A7 d V)
/-- The contents when the transposed convolution is summed. -/
def A9 : Valuation τ sig (Elt Ideal) := after ((line3 d).1.take 47) (A8 d V)
/-- The contents after the fourth stretch. -/
def A10 : Valuation τ sig (Elt Ideal) := after ((line3 d).1.drop 47) (A9 d V)
/-- The contents at the end. -/
def A11 : Valuation τ sig (Elt Ideal) := after (line4 d).1 (A10 d V)

/-- Running a list is running its first operations and then the rest. -/
theorem after_cut (k : ℕ) (l : List (HloOp τ sig (Elt Ideal))) (W : Valuation τ sig (Elt Ideal)) : after (l.drop k) (after (l.take k) W) = after l W := by
  rw [← StableHlo.after_append, List.take_append_drop]

/-- The whole line leaves the last contents. -/
theorem after_ops : after (ops d) V = A11 d V := by
  simp only [ops, StableHlo.after_append, A11, A10, A9, A8, A7, A6, A5, A4, A3, A2, A1, A0, P0, after_cut]

/-- The padding writes no argument. -/
theorem net_P0 : net (P0 d V) = net V := by
  refine net_congr ?_ ?_ ?_ ?_ ?_ ?_ ?_ ?_ ?_ ?_ <;> (unfold P0; simp only [line0, List.take, List.drop]; after_reads_simp)

/-- The convolution writes no argument. -/
theorem net_A1 : net (A1 d V) = net (P0 d V) := by
  refine net_congr ?_ ?_ ?_ ?_ ?_ ?_ ?_ ?_ ?_ ?_ <;> (unfold A1 A0; simp only [line0, line1, List.take, List.drop]; after_reads_simp)

/-- The encoder writes no argument. -/
theorem net_A2 : net (A2 d V) = net (A1 d V) := by
  refine net_congr ?_ ?_ ?_ ?_ ?_ ?_ ?_ ?_ ?_ ?_ <;> (unfold A2; simp only [line1, List.take, List.drop]; after_reads_simp)

/-- The distances' stretch writes no argument. -/
theorem net_A4 : net (A4 d V) = net (A2 d V) := by
  refine net_congr ?_ ?_ ?_ ?_ ?_ ?_ ?_ ?_ ?_ ?_ <;> (unfold A4 A3; simp only [line1, line2, List.take, List.drop]; after_reads_simp)

/-- The picks' stretch writes no argument. -/
theorem net_A7 : net (A7 d V) = net (A4 d V) := by
  refine net_congr ?_ ?_ ?_ ?_ ?_ ?_ ?_ ?_ ?_ ?_ <;> (unfold A7 A6 A5; simp only [line2, List.take, List.drop]; after_reads_simp)

/-- The transposed convolution writes no argument. -/
theorem net_A9 : net (A9 d V) = net (A7 d V) := by
  refine net_congr ?_ ?_ ?_ ?_ ?_ ?_ ?_ ?_ ?_ ?_ <;> (unfold A9 A8; simp only [line2, line3, List.take, List.drop]; after_reads_simp)

/-! ## The encoder -/

/-- The padded image. -/
theorem v0_at (b : Fin 8) (c : Fin 3) (i j : Fin 386) :
    (show FVec Ideal S8x3x386x386 .f32 from P0 d V (Proc.devRef .tc main_v0)) (ix4 b c i j) = (net V).pad b c i.val j.val := by
  unfold P0
  simp only [line0, List.take]
  refine Eq.trans (b := if h : (1 ≤ i.val ∧ i.val - 1 < 384) ∧ 1 ≤ j.val ∧ j.val - 1 < 384 then
    (show FVec Ideal S8x3x384x384 .f32 from V (Proc.devRef .tc main_arg0)) (ix4 b c ⟨i.val - 1, h.1.2⟩ ⟨j.val - 1, h.2.2⟩)
    else FloatOps.sitofp FTy.f32 0#32) ?_ ?_
  · after_reads_at
  · unfold Net.pad
    exact dite_congr rfl (fun _ => rfl) fun _ => by simp [FloatOps.sitofp]

/-- The strided convolution. -/
theorem v95_at (b : Fin 8) (o h w : Fin 192) :
    (show FVec Ideal S8x192x192x192 .f32 from A1 d V (Proc.devRef .tc main_v95)) (ix4 b o h w) = (net V).conv b h w o := by
  generalize hv : (net V).conv b h w o = v
  unfold A1 A0
  have h0 := v0_at d V
  rw [← net_P0 d V] at hv h0
  simp only [line0, line1, List.take, List.drop]
  generalize P0 d V = W at hv h0 ⊢
  after_reads_at
  rw [← hv]
  unfold Net.conv
  simp only [Fin.sum_univ_four, ← add_assoc]
  repeat' (first | refine Finset.sum_congr rfl fun x _ => ?_ | refine congrArg₂ HAdd.hAdd ?_ ?_)
  all_goals
    refine congrArg₂ HMul.hMul ((h0 b x _ _).trans (congrArg₂ ((net W).pad b x) ?_ ?_)) rfl <;> (simp <;> omega)

/-- The encoded pixel. -/
theorem v105_at (b : Fin 8) (e : Fin 64) (h w : Fin 192) :
    (show FVec Ideal S8x64x192x192 .f32 from A2 d V (Proc.devRef .tc main_v105)) (ix4 b e h w) = (net V).z b h w e := by
  generalize hv : (net V).z b h w e = v
  unfold A2
  have h0 := v95_at d V
  rw [← net_P0 d V, ← net_A1 d V] at hv h0
  simp only [line1, List.take, List.drop]
  generalize A1 d V = W at hv h0 ⊢
  after_reads_at
  rw [← hv]
  unfold Net.z Net.hid
  refine congrArg₂ HAdd.hAdd (Finset.sum_congr rfl fun x _ => (mul_comm _ _).trans ?_) rfl
  exact congrArg₂ HMul.hMul rfl (congrArg₂ max (congrArg₂ HAdd.hAdd (h0 b x h w) rfl) rfl)

/-! ## The picks -/

/-- The row of the pixel numbered `n`. -/
def pickN (N : Net) (n : Fin 294912) : Fin 1024 := N.pick ⟨n.val / 36864, by omega⟩ ⟨n.val / 192 % 192, by omega⟩ ⟨n.val % 192, by omega⟩

/-- A pixel's number is its own. -/
theorem pickN_num (N : Net) (b : Fin 8) (h w : Fin 192) (n : Fin 294912) (hn : n.val = b.val * 36864 + h.val * 192 + w.val) : pickN N n = N.pick b h w := by
  have hb := b.isLt
  have hh := h.isLt
  have hw := w.isLt
  have e1 : (⟨n.val / 36864, by omega⟩ : Fin 8) = b := Fin.ext (by dsimp only; omega)
  have e2 : (⟨n.val / 192 % 192, by omega⟩ : Fin 192) = h := Fin.ext (by dsimp only; omega)
  have e3 : (⟨n.val % 192, by omega⟩ : Fin 192) = w := Fin.ext (by dsimp only; omega)
  rw [pickN, e1, e2, e3]

/-- Two's bits. -/
theorem two_bits : Ideal.ofBits FTy.f32 1073741824#32 = ((2 : ℝ) : EReal) := by
  simp [Ideal.ofBits, Ideal.ieee, -EReal.coe_mul]; norm_num

/-- The distances. -/
theorem v121_at (n : Fin 294912) (k : Fin 1024) : (show FVec Ideal S294912x1024 .f32 from A4 d V (Proc.devRef .tc main_v121)) (ix2 n k)
    = (net V).dist ⟨n.val / 36864, by omega⟩ ⟨n.val / 192 % 192, by omega⟩ ⟨n.val % 192, by omega⟩ k := by
  generalize hv : (net V).dist _ _ _ k = v
  unfold A4 A3
  have h0 := v105_at d V
  rw [← net_P0 d V, ← net_A1 d V, ← net_A2 d V] at hv h0
  simp only [line1, line2, List.take, List.drop]
  generalize A2 d V = W at hv h0 ⊢
  after_reads_at
  rw [← hv, two_bits]
  unfold Net.dist
  refine congrArg₂ HAdd.hAdd (congrArg₂ HSub.hSub (Finset.sum_congr rfl fun x _ => congrArg₂ HMul.hMul (h0 _ _ _ _) (h0 _ _ _ _))
    (congrArg₂ HMul.hMul rfl (Finset.sum_congr rfl fun x _ => congrArg₂ HMul.hMul (h0 _ _ _ _) rfl))) rfl

/-- The picked indices. -/
theorem v122_at (n : Fin 294912) : (show IVec S294912 32 from A5 d V (Proc.devRef .tc main_v122)) (ix1 n) = BitVec.ofNat 32 (pickN (net V) n).val := by
  have h0 := v121_at d V n
  unfold A5
  simp only [line2, List.take, List.drop]
  generalize A4 d V = W at h0 ⊢
  refine Eq.trans (b := BitVec.ofNat 32 (first fun k : Fin 1024 => (show FVec Ideal S294912x1024 .f32 from W (Proc.devRef .tc main_v121)) (ix2 n k)).val) ?_ ?_
  · after_reads_at
    exact argmin_at _ _ _ n
  · rw [funext h0]; rfl

end Cert.ReferenceIdeal.Val

end
-- ==== Proof.RefTail.lean ====
/- The reference's picked rows, its decoder and its three results, over the arguments. -/
module

public import proofs.«01_k».proof.Proof.RefStages
public import proofs.«01_k».proof.Proof.Eq
public import Idealize.ShloMosaic.Lib.Pipeline.ValueKit
public import Idealize.ShloMosaic.Lib.StableHlo.ReadAt

@[expose] public section

set_option maxRecDepth 16384

noncomputable section

namespace Cert.ReferenceIdeal.Val

open Idealize.ShloMosaic Idealize.ShloMosaic.TcCoe Idealize.SL.Sem
open Cert.ReferenceIdeal Cert.Vq

local instance : Cert.ReferenceIdeal.Facts := Cert.ReferenceIdeal.Gen.facts

open Idealize.ShloMosaic.StableHlo (after)

variable (d : Dev nD) (V : Valuation τ sig (Elt Ideal))

/-- The codebook stays through the picks. -/
theorem arg5_A5 : A5 d V (Proc.devRef .tc main_arg5) = V (Proc.devRef .tc main_arg5) := by
  unfold A5 A4 A3 A2 A1 A0 P0; simp only [line0, line1, line2, List.take, List.drop]; after_reads_simp

/-- The picked rows. -/
theorem v123_at (n : Fin 294912) (e : Fin 64) : (show FVec Ideal S294912x64 .f32 from A6 d V (Proc.devRef .tc main_v123)) (ix2 n e)
    = (net V).cb (pickN (net V) n) e := by
  generalize hv : (net V).cb (pickN (net V) n) e = v
  have h0 := v122_at d V n
  have ha : A5 d V (Proc.devRef .tc main_arg5) = V (Proc.devRef .tc main_arg5) := arg5_A5 d V
  rw [show (net V).cb (pickN (net V) n) e = (show FVec Ideal S1024x64 .f32 from V (Proc.devRef .tc main_arg5)) (ix2 (pickN (net V) n) e) from rfl, ← ha] at hv
  generalize pickN (net V) n = p at hv h0
  unfold A6
  simp only [line2, List.take, List.drop]
  generalize A5 d V = W at hv h0 ⊢
  clear ha
  after_reads_at
  obtain ⟨s1, s2, s3⟩ := small p.val p.isLt
  have h0' : W (Proc.devRef .tc main_v122) (ix1 n) = BitVec.ofNat 32 p.val := h0
  have hs : Scalar.select (IntOp.cmpi CmpIPredicate.slt (W (Proc.devRef .tc main_v122) (ix1 n)) 0#32)
      (IntOp.addi (W (Proc.devRef .tc main_v122) (ix1 n)) 1024#32) (W (Proc.devRef .tc main_v122) (ix1 n)) = BitVec.ofNat 32 p.val := by
    rw [h0', s1]; rfl
  rw [hs, s2, s3, ← hv]
  have hf : Finset.fold IntOp.andi 1#1 (fun _ : Fin 1 => IntOp.andi 1#1 1#1) Finset.univ = 1#1 := by decide
  rw [hf]
  refine Eq.trans (if_pos rfl) (Idealize.ShloMosaic.Routing.gather_row _ rfl rfl rfl rfl rfl _ _ n e p ?_ (by norm_num))
  have hx : ∀ (x : IVec S294912 32) (hb : S294912.BroadcastsInDim S294912x1 ![0]), broadcastInDim S294912x1 ![0] hb x (ix2 n 0) = x (ix1 n) :=
    fun x hb => broadcastInDim_apply ![0] hb x _ (ix1 n) fun a => by fin_cases a; rfl
  exact (hx _ _).trans hs

/-- The picked rows, channels before places. -/
theorem v125_at (b : Fin 8) (e : Fin 64) (h w : Fin 192) : (show FVec Ideal S8x64x192x192 .f32 from A7 d V (Proc.devRef .tc main_v125)) (ix4 b e h w)
    = (net V).cb ((net V).pick b h w) e := by
  have h0 := v123_at d V
  unfold A7
  simp only [line2, List.take, List.drop]
  generalize A6 d V = W at h0 ⊢
  generalize hv : (net V).cb ((net V).pick b h w) e = v
  after_reads_at
  rw [← hv]
  exact (h0 _ e).trans (congrArg (fun k => (net V).cb k e) (pickN_num (net V) b h w _ rfl))

/-- The picked rows, spread out. -/
theorem v126_at (b : Fin 8) (e : Fin 64) (i j : Fin 387) : (show FVec Ideal S8x64x387x387 .f32 from A7 d V (Proc.devRef .tc main_v126)) (ix4 b e i j)
    = (net V).dil (net V).pick b i.val j.val e := by
  have h0 := v123_at d V
  unfold A7
  simp only [line2, List.take, List.drop]
  generalize A6 d V = W at h0 ⊢
  generalize hv : (net V).dil (net V).pick b i.val j.val e = v
  after_reads_at
  rw [← hv]
  unfold Net.dil
  refine dite_congr rfl (fun hh => ?_) fun _ => rfl
  exact (h0 _ e).trans (congrArg (fun k => (net V).cb k e) (pickN_num (net V) b _ _ _ rfl))

/-! ## The decoder -/

/-- The transposed convolution. -/
theorem v221_at (b : Fin 8) (o : Fin 192) (y x : Fin 384) : (show FVec Ideal S8x192x384x384 .f32 from A9 d V (Proc.devRef .tc main_v221)) (ix4 b o y x)
    = (net V).up (net V).pick b y x o := by
  rw [← Net.deconv_eq_up]
  generalize hv : (net V).deconv (net V).pick b y x o = v
  unfold A9 A8
  have h0 := v126_at d V
  rw [← net_P0 d V, ← net_A1 d V, ← net_A2 d V, ← net_A4 d V, ← net_A7 d V] at hv h0
  simp only [line2, line3, List.take, List.drop]
  generalize A7 d V = W at hv h0 ⊢
  after_reads_at
  rw [← hv]
  unfold Net.deconv
  simp only [Fin.sum_univ_four, ← add_assoc]
  repeat' (first | refine Finset.sum_congr rfl fun e _ => ?_ | refine congrArg₂ HAdd.hAdd ?_ ?_)
  all_goals
    refine congrArg₂ HMul.hMul ((h0 b e _ _).trans (congrArg₂ (fun i j => (net W).dil (net W).pick b i j e) ?_ ?_)) rfl <;> simp

/-- The reconstruction. -/
theorem v237_at (b : Fin 8) (ch : Fin 3) (y x : Fin 384) : (show FVec Ideal S8x3x384x384 .f32 from A11 d V (Proc.devRef .tc main_v237)) (ix4 b ch y x)
    = (net V).recon (net V).pick b ch y x := by
  generalize hv : (net V).recon (net V).pick b ch y x = v
  unfold A11 A10
  have h0 := v221_at d V
  rw [← net_P0 d V, ← net_A1 d V, ← net_A2 d V, ← net_A4 d V, ← net_A7 d V, ← net_A9 d V] at hv h0
  simp only [line3, line4, List.take, List.drop]
  generalize A9 d V = W at hv h0 ⊢
  after_reads_at
  rw [← hv]
  unfold Net.recon Ideal.logistic
  refine congrArg (fun t => Ideal.div 1 (1 + Ideal.exp (-t))) (congrArg₂ HAdd.hAdd (Finset.sum_congr rfl fun o _ => (mul_comm _ _).trans ?_) rfl)
  exact congrArg₂ HMul.hMul rfl (congrArg₂ max (congrArg₂ HAdd.hAdd (h0 b o y x) rfl) rfl)

/-! ## The other results -/

/-- The picked rows stay to the end of the fourth stretch. -/
theorem v125_A10 : A10 d V (Proc.devRef .tc main_v125) = A7 d V (Proc.devRef .tc main_v125) := by
  unfold A10 A9 A8; simp only [line2, line3, List.take, List.drop]; after_reads_simp

/-- The encoded pixels stay to the end of the fourth stretch. -/
theorem v105_A10 : A10 d V (Proc.devRef .tc main_v105) = A2 d V (Proc.devRef .tc main_v105) := by
  unfold A10 A9 A8 A7 A6 A5 A4 A3; simp only [line1, line2, line3, List.take, List.drop]; after_reads_simp

/-- The picked indices stay to the end of the fourth stretch. -/
theorem v122_A10 : A10 d V (Proc.devRef .tc main_v122) = A5 d V (Proc.devRef .tc main_v122) := by
  unfold A10 A9 A8 A7 A6; simp only [line2, line3, List.take, List.drop]; after_reads_simp

/-- The count's bits. -/
theorem count_bits : Ideal.ofBits FTy.f32 1267728384#32 = ((18874368 : ℝ) : EReal) := by
  simp [Ideal.ofBits, Ideal.ieee, -EReal.coe_mul]; norm_num

/-- The indices. -/
theorem v247_at (b : Fin 8) (h w : Fin 192) : (show IVec S8x192x192 32 from A11 d V (Proc.devRef .tc main_v247)) (ix3 b h w)
    = BitVec.ofNat 32 ((net V).pick b h w).val := by
  have h0 := v122_at d V
  rw [← v122_A10] at h0
  unfold A11
  simp only [line4]
  generalize A10 d V = W at h0 ⊢
  generalize hv : BitVec.ofNat 32 ((net V).pick b h w).val = v
  after_reads_at
  rw [← hv, ← pickN_num (net V) b h w ⟨b.val * 36864 + h.val * 192 + w.val, by omega⟩ rfl]
  exact h0 _

end Cert.ReferenceIdeal.Val

end
-- ==== Proof.RefLoss.lean ====
/- The reference's loss, over the arguments. -/
module

public import proofs.«01_k».proof.Proof.RefTail
public import proofs.«01_k».proof.Proof.Eq
public import Idealize.ShloMosaic.Lib.Pipeline.ValueKit
public import Idealize.ShloMosaic.Lib.StableHlo.ReadAt

@[expose] public section

set_option maxRecDepth 16384

noncomputable section

namespace Cert.ReferenceIdeal.Val

open Idealize.ShloMosaic Idealize.ShloMosaic.TcCoe Idealize.SL.Sem
open Cert.ReferenceIdeal Cert.Vq

local instance : Cert.ReferenceIdeal.Facts := Cert.ReferenceIdeal.Gen.facts

open Idealize.ShloMosaic.StableHlo (after)

variable (d : Dev nD) (V : Valuation τ sig (Elt Ideal))

/-- The squared differences of two arrays, added up. -/
theorem sq_total (N : Net) (q z : FVec Ideal S8x64x192x192 .f32) (h1 : ∀ b e i j, q (ix4 b e i j) = N.cb (N.pick b i j) e)
    (h2 : ∀ b e i j, z (ix4 b e i j) = N.z b i j e) (h : S8x64x192x192.ReducesTo [0, 1, 2, 3] S_) :
    Ideal.hostReduceAdd h (mulf (subf q z) (subf q z)) 0 ix0 = N.err := by
  rw [Ideal.hostReduceAdd_total h (fun b => b.elim0), zero_add, sum_idx4]
  unfold Net.err
  refine Finset.sum_congr rfl fun b _ => ?_
  rw [Finset.sum_comm]
  refine Finset.sum_congr rfl fun i _ => ?_
  rw [Finset.sum_comm]
  refine Finset.sum_congr rfl fun j _ => Finset.sum_congr rfl fun e _ => ?_
  exact congrArg₂ HMul.hMul (congrArg₂ HSub.hSub (h1 b e i j) (h2 b e i j)) (congrArg₂ HSub.hSub (h1 b e i j) (h2 b e i j))

/-- The loss. -/
theorem v246_at : (show FVec Ideal S_ .f32 from A11 d V (Proc.devRef .tc main_v246)) ix0
    = Ideal.div (net V).err ((18874368 : ℝ) : EReal) + Ideal.div (net V).err ((18874368 : ℝ) : EReal) := by
  have h1 := v125_at d V
  have h2 := v105_at d V
  rw [← v125_A10] at h1
  rw [← v105_A10] at h2
  generalize net V = N at h1 h2 ⊢
  unfold A11
  simp only [line4]
  generalize A10 d V = W at h1 h2 ⊢
  have ht := sq_total N _ _ h1 h2
  dsimp only at ht
  generalize hv : Ideal.div N.err ((18874368 : ℝ) : EReal) + Ideal.div N.err ((18874368 : ℝ) : EReal) = v
  after_reads_at
  rw [ht, count_bits, hv]

end Cert.ReferenceIdeal.Val

end
-- ==== Proof.Finite.lean ====
/- The precondition, read at an entry: each of the six arguments it names holds reals only. -/
module

public import proofs.«01_k».proof.Pre_finite
public import proofs.«01_k».proof.Proof.Gen.Pre_finite
public import proofs.«01_k».proof.Proof.Eq
public import Idealize.ShloMosaic.Lib.ReduceAll
public import Idealize.ShloMosaic.Lib.Affine
public import Idealize.ShloMosaic.Lib.Pipeline.ValueKit

@[expose] public section

noncomputable section

namespace Cert.Vq

open Idealize.ShloMosaic Idealize.ShloMosaic.TcCoe Idealize.SL.Sem
open Cert.Pre_finite

local instance : Cert.Pre_finite.Facts := Cert.Pre_finite.Gen.facts

/-- A value whose size is below infinity is real. -/
theorem rl_of_lt (x : EReal) (h : Ideal.cmp CmpFPredicate.olt (max x (-x)) (Ideal.ofBits FTy.f32 0x7F800000#32) = 1#1) : Rl x := by
  have ht : Ideal.ofBits FTy.f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- An array whose test says every size is below infinity holds reals only. -/
theorem rl_of_all {s : Shape} {axes : List (Fin s.rank)} (x : FVec Ideal s .f32) (hb : S_.BroadcastsInDim s ![]) (h : s.ReducesTo axes S_) (hu)
    (e : Host.reduce IntOp.andi (cmpf .olt (Host.absf x) (broadcastInDim s ![] hb (constant S_ .f32 0x7F800000#32))) (constantI S_ 1 1#1) h hu ix0 = 1#1)
    (i : s.Idx) : Rl (x i) := by
  have : Subsingleton S_.Idx := ⟨fun a b => funext fun k => k.elim0⟩
  exact rl_of_lt _ (Host.reduce_andi_all _ _ h hu ix0 e i)

/-- The precondition makes every entry of its six arguments real. -/
theorem rl_of_pre (a0 : FVec Ideal S8x3x384x384 .f32) (a1 : FVec Ideal S192x3x4x4 .f32) (a2 : FVec Ideal S192 .f32) (a3 : FVec Ideal S64x192x1x1 .f32)
    (a4 : FVec Ideal S64 .f32) (a5 : FVec Ideal S1024x64 .f32) (a6 : FVec Ideal S192x64x4x4 .f32) (a7 : FVec Ideal S192 .f32)
    (a8 : FVec Ideal S3x192x1x1 .f32) (a9 : FVec Ideal S3 .f32) (h : Cert.Pre_finite.fn (F := Ideal) a0 a1 a2 a3 a4 a5 a6 a7 a8 a9 = fun _ => 1#1) :
    (∀ i, Rl (a0 i)) ∧ (∀ i, Rl (a1 i)) ∧ (∀ i, Rl (a2 i)) ∧ (∀ i, Rl (a3 i)) ∧ (∀ i, Rl (a4 i)) ∧ ∀ i, Rl (a5 i) := by
  have h0 := congrFun h ix0
  unfold Cert.Pre_finite.fn fn_part1 at h0
  obtain ⟨h0, h5⟩ := IntOp.andi_eq_one.mp h0
  obtain ⟨h0, h4⟩ := IntOp.andi_eq_one.mp h0
  obtain ⟨h0, h3⟩ := IntOp.andi_eq_one.mp h0
  obtain ⟨h0, h2⟩ := IntOp.andi_eq_one.mp h0
  obtain ⟨h0, h1⟩ := IntOp.andi_eq_one.mp h0
  obtain ⟨-, h0⟩ := IntOp.andi_eq_one.mp h0
  exact ⟨rl_of_all _ _ _ _ h0, rl_of_all _ _ _ _ h1, rl_of_all _ _ _ _ h2, rl_of_all _ _ _ _ h3, rl_of_all _ _ _ _ h4, rl_of_all _ _ _ _ h5⟩

end Cert.Vq

end
-- ==== Proof.Value.lean ====
/- The kernel's three results are the reference's, where the first six arguments hold reals only; and the reference leaves its arguments. -/
module

public import proofs.«01_k».proof.Defs
public import proofs.«01_k».proof.Proof.Run
public import proofs.«01_k».proof.Proof.HostOut
public import proofs.«01_k».proof.Proof.RefLoss
public import proofs.«01_k».proof.Proof.Finite
public import Idealize.ShloMosaic.Lib.Quiescent

@[expose] public section

set_option maxRecDepth 16384

noncomputable section

namespace Cert.Vq

open Idealize.ShloMosaic Idealize.ShloMosaic.TcCoe Idealize.SL.Sem
open Idealize.ShloMosaic.StableHlo (after)

local instance : Cert.KernelIdeal.Facts := Cert.KernelIdeal.Gen.facts
local instance : Cert.ReferenceIdeal.Facts := Cert.ReferenceIdeal.Gen.facts
local instance : Cert.Pre_finite.Facts := Cert.Pre_finite.Gen.facts

section Reference

open Cert.ReferenceIdeal

/-- The reference leaves its arguments. -/
theorem ref_args (m : (ℓ : Loc nD τ sig) → Buf (Elt Ideal) ℓ) (c : Dev nD) :
    let W := after (Val.ops c) (StableHlo.launchContents m c)
    W (Proc.devRef .tc main_arg0) = m ((c.tc : Thread nD τ).loc main_arg0) ∧ W (Proc.devRef .tc main_arg1) = m ((c.tc : Thread nD τ).loc main_arg1)
    ∧ W (Proc.devRef .tc main_arg2) = m ((c.tc : Thread nD τ).loc main_arg2) ∧ W (Proc.devRef .tc main_arg3) = m ((c.tc : Thread nD τ).loc main_arg3)
    ∧ W (Proc.devRef .tc main_arg4) = m ((c.tc : Thread nD τ).loc main_arg4) ∧ W (Proc.devRef .tc main_arg5) = m ((c.tc : Thread nD τ).loc main_arg5)
    ∧ W (Proc.devRef .tc main_arg6) = m ((c.tc : Thread nD τ).loc main_arg6) ∧ W (Proc.devRef .tc main_arg7) = m ((c.tc : Thread nD τ).loc main_arg7)
    ∧ W (Proc.devRef .tc main_arg8) = m ((c.tc : Thread nD τ).loc main_arg8) ∧ W (Proc.devRef .tc main_arg9) = m ((c.tc : Thread nD τ).loc main_arg9) :=
  Val.after_args c _

/-- The reference runs to its end, leaves its arguments and every counter at zero. -/
theorem ref_frame : quiescent_ReferenceIdeal := fun m g _ =>
  θ_run_mono (Val.run m g) fun r h => ⟨fun c => by simp only [h]; exact ref_args m c, sem_eq_zero_of_no_sems (by decide) _⟩

end Reference

/-- The network of ten arrays. -/
def netOf (a0 : FVec Ideal Cert.KernelIdeal.S8x3x384x384 .f32) (a1 : FVec Ideal Cert.KernelIdeal.S192x3x4x4 .f32) (a2 : FVec Ideal Cert.KernelIdeal.S192 .f32) (a3 : FVec Ideal Cert.KernelIdeal.S64x192x1x1 .f32) (a4 : FVec Ideal Cert.KernelIdeal.S64 .f32)
    (a5 : FVec Ideal Cert.KernelIdeal.S1024x64 .f32) (a6 : FVec Ideal Cert.KernelIdeal.S192x64x4x4 .f32) (a7 : FVec Ideal Cert.KernelIdeal.S192 .f32) (a8 : FVec Ideal Cert.KernelIdeal.S3x192x1x1 .f32) (a9 : FVec Ideal Cert.KernelIdeal.S3 .f32) : Net where
  x b ch i j := a0 (ix4 b ch i j)
  w1 o ch i j := a1 (ix4 o ch i j)
  b1 o := a2 (ix1 o)
  w2 d o := a3 (ix4 d o 0 0)
  b2 d := a4 (ix1 d)
  cb k d := a5 (ix2 k d)
  u1 o d i j := a6 (ix4 o d i j)
  c1 o := a7 (ix1 o)
  u2 k o := a8 (ix4 k o 0 0)
  c2 k := a9 (ix1 k)

/-- The network of the kernel's arguments holds reals where the precondition asks. -/
theorem net_real (m : (ℓ : Loc Cert.KernelIdeal.nD Cert.KernelIdeal.τ Cert.KernelIdeal.sig) → Buf (Elt Ideal) ℓ) (h : Pre_KernelIdeal_finite m)
    (c : Dev Cert.KernelIdeal.nD) : (Cert.KernelIdeal.Val.net m c).Real := by
  obtain ⟨h0, h1, h2, h3, h4, h5⟩ := rl_of_pre _ _ _ _ _ _ _ _ _ _ (h c)
  exact ⟨fun _ _ _ _ => h0 _, fun _ _ _ _ => h1 _, fun _ => h2 _, fun _ _ => h3 _, fun _ => h4 _, fun _ _ => h5 _⟩

/-- The kernel picks the reference's rows. -/
theorem picked_eq (m : (ℓ : Loc Cert.KernelIdeal.nD Cert.KernelIdeal.τ Cert.KernelIdeal.sig) → Buf (Elt Ideal) ℓ) (c : Dev Cert.KernelIdeal.nD)
    (h : (Cert.KernelIdeal.Val.net m c).Real) : Cert.KernelIdeal.Val.picked m c = (Cert.KernelIdeal.Val.net m c).pick :=
  funext fun b => funext fun i => funext fun j => h.pick b i j

section Kernel

open Cert.KernelIdeal Cert.KernelIdeal.Gen Cert.KernelIdeal.Val

/-- The kernel's loss is twice the mean of the squared error. -/
theorem ker_loss (m : (ℓ : Loc nD τ sig) → Buf (Elt Ideal) ℓ) (ρ : Dev nD → PrngReg) (c : Dev nD) (h : (net m c).Real) :
    (show FVec Ideal S_ .f32 from W17 m ρ c (Proc.devRef .tc main_v105)) ix0
      = Ideal.div (net m c).err ((18874368 : ℝ) : EReal) + Ideal.div (net m c).err ((18874368 : ℝ) : EReal) := by
  have hp := part_at m ρ c
  refine (v105_at m ρ c).trans ?_
  generalize hP : (fun n => part (V11 m ρ c main_v90) (V11 m ρ c main_v101) (V11 m ρ c main_v92) (V11 m ρ c main_v102)
    (V11 m ρ c main_v95) (V11 m ρ c main_v98) (patch (V11 m ρ c main_v87) n)) = P
  have hn : ∀ n, part (V11 m ρ c main_v90) (V11 m ρ c main_v101) (V11 m ρ c main_v92) (V11 m ρ c main_v102)
    (V11 m ρ c main_v95) (V11 m ρ c main_v98) (patch (V11 m ρ c main_v87) n) = P n := fun n => congrFun hP n
  simp only [hn] at hp ⊢
  exact h.loss P fun b i j => (hp b i j).trans (h.sq b i j)

end Kernel

/-- The three results are equal. -/
theorem algebraic : algebraic_KernelIdeal_ReferenceIdeal_pre_finite := fun m g m' g' hp ha => by
  refine ⟨fun c => Cert.KernelIdeal.Gen.W17 m g c (Proc.devRef .tc Cert.KernelIdeal.main_v130),
    fun c => Cert.KernelIdeal.Gen.W17 m g c (Proc.devRef .tc Cert.KernelIdeal.main_v105),
    fun c => Cert.KernelIdeal.Gen.W17 m g c (Proc.devRef .tc Cert.KernelIdeal.main_v104), Cert.KernelIdeal.Val.run m g,
    θ_run_mono (Cert.ReferenceIdeal.Val.run m' g') fun r h c => ?_⟩
  have hR := net_real m hp c
  have hk := picked_eq m c hR
  obtain ⟨e0, e1, e2, e3, e4, e5, e6, e7, e8, e9⟩ := ha c
  have hN : Cert.ReferenceIdeal.Val.net (StableHlo.launchContents m' c) = Cert.KernelIdeal.Val.net m c := by
    have e : ∀ b : Ref Cert.ReferenceIdeal.sig .tc, StableHlo.launchContents m' c (Proc.devRef .tc b)
        = m' ((c.tc : Thread Cert.ReferenceIdeal.nD Cert.ReferenceIdeal.τ).loc b) := fun _ => rfl
    refine Eq.trans (b := netOf _ _ _ _ _ _ _ _ _ _) rfl ?_
    simp only [e, e0, e1, e2, e3, e4, e5, e6, e7, e8, e9]
    rfl
  simp only [h]
  refine ⟨?_, ?_, ?_, ref_args m' c⟩
  · rw [Cert.ReferenceIdeal.Val.after_ops]
    refine funext fun i => ?_
    obtain ⟨b, ch, y, x, rfl⟩ : ∃ b ch y x, i = ix4 b ch y x := ⟨_, _, _, _, eq_ix4 i⟩
    refine (Cert.ReferenceIdeal.Val.v237_at c _ b ch y x).trans ?_
    rw [hN, ← hk]
    exact (Cert.KernelIdeal.Val.v130_at m g c b ch y x).symm
  · rw [Cert.ReferenceIdeal.Val.after_ops]
    refine funext fun i => ?_
    obtain rfl : i = ix0 := funext fun a => a.elim0
    refine (Cert.ReferenceIdeal.Val.v246_at c _).trans ?_
    rw [hN]
    exact (ker_loss m g c hR).symm
  · rw [Cert.ReferenceIdeal.Val.after_ops]
    refine funext fun i => ?_
    obtain ⟨b, y, x, rfl⟩ : ∃ b y x, i = ix3 b y x := ⟨_, _, _, eq_ix3 i⟩
    refine (Cert.ReferenceIdeal.Val.v247_at c _ b y x).trans ?_
    rw [hN, ← hk]
    exact (Cert.KernelIdeal.Val.v104_at m g c b y x).symm

end Cert.Vq

end
-- ==== Proof.lean ====
/- The certificate: the frames of the kernel, of the ideal kernel and of the ideal reference, the kernel's named constant, and the equality of
   the three results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init
public import proofs.«01_k».proof.Proof.Value

@[expose] public section

noncomputable section

namespace Cert.Proof

open Idealize.ShloMosaic Idealize.SL.Sem Cert.Kernel

/-- Everything the certificate claims: the frames of the three programs, the named constant, and the equality of the three results. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  Cert.Vq.ref_frame, fun m g _ => Cert.Vq.ref_frame m g trivial,
  IdealRules.named_const.statement Cert.KernelIdeal.κ "two_over_count" .f32 0x33E38E39#32 _ rfl, Cert.Vq.algebraic⟩

end Cert.Proof

end
